-- ==== Defs.lean ====
def Pre_Kernel [hPre_lengths_ok : Cert.Pre_lengths_ok.Facts] (m : (ℓ : Loc Cert.Kernel.nD Cert.Kernel.τ Cert.Kernel.sig) → Buf (Elt Bits) ℓ) : Prop :=
  ∀ c : Dev Cert.Kernel.nD,
    (Cert.Pre_lengths_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_lengths_ok : Cert.Pre_lengths_ok.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] [hPre_lengths_ok : Cert.Pre_lengths_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_lengths_ok : Cert.Pre_lengths_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lengths_ok : Cert.Pre_lengths_ok.Facts) (hPre_inputs_ok : Cert.Pre_inputs_ok.Facts),
    quiescent_Kernel (hKernel := hKernel) (hPre_lengths_ok := hPre_lengths_ok)
    ∧ quiescent_KernelIdeal (hKernelIdeal := hKernelIdeal) (hPre_lengths_ok := hPre_lengths_ok)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S12x211x8192 : Shape := ⟨3, ![12, 211, 8192]⟩
abbrev S12x211x8x128 : Shape := ⟨4, ![12, 211, 8, 128]⟩
abbrev S12x2048x8x128 : Shape := ⟨4, ![12, 2048, 8, 128]⟩
abbrev S12x16x8x128 : Shape := ⟨4, ![12, 16, 8, 128]⟩
abbrev S12x2048x8 : Shape := ⟨3, ![12, 2048, 8]⟩
abbrev S12 : Shape := ⟨1, ![12]⟩
abbrev S_ : Shape := ⟨0, ![]⟩

class Facts : Prop where
  bcast_S_S12 : S_.BroadcastsInDim S12 (![] : Fin 0 → Fin S12.rank)
  bcast_S_S12x211x8192 : S_.BroadcastsInDim S12x211x8192 (![] : Fin 0 → Fin S12x211x8192.rank)
  bcast_S_S12x211x8x128 : S_.BroadcastsInDim S12x211x8x128 (![] : Fin 0 → Fin S12x211x8x128.rank)
  bcast_S_S12x16x8x128 : S_.BroadcastsInDim S12x16x8x128 (![] : Fin 0 → Fin S12x16x8x128.rank)

variable [Facts]

def fn {F : FTy → Type} [FloatOps F] (main_arg0 : FVec F S12x211x8192 .bf16) (main_arg1 : FVec F S12x211x8x128 .bf16) (main_arg2 : FVec F S12x211x8x128 .bf16) (main_arg3 : IVec S12x2048x8x128 8) (main_arg4 : FVec F S12x16x8x128 .f32) (main_arg5 : IVec S12x2048x8x128 8) (main_arg6 : FVec F S12x2048x8 .f32) (main_arg7 : IVec S12 32) : IVec S12 1 × IVec S12x211x8192 1 × IVec S12x211x8x128 1 × IVec S12x16x8x128 1 :=
  let main_c : IVec S_ 32 := constantI S_ 32 2048#32
  let main_v0 : IVec S12 32 := broadcastInDim S12 ![] bcast_S_S12 main_c
  let main_v1 : IVec S12 1 := cmpi .sle main_arg7 main_v0
  let main_v2 : FVec F S12x211x8192 .bf16 := Host.absf main_arg0
  let main_cst : FVec F S_ .bf16 := constant S_ .bf16 0x7F80#16
  let main_v3 : FVec F S12x211x8192 .bf16 := broadcastInDim S12x211x8192 ![] bcast_S_S12x211x8192 main_cst
  let main_v4 : IVec S12x211x8192 1 := cmpf .olt main_v2 main_v3
  let main_v5 : FVec F S12x211x8x128 .bf16 := Host.absf main_arg1
  let main_cst_0 : FVec F S_ .bf16 := constant S_ .bf16 0x7F80#16
  let main_v6 : FVec F S12x211x8x128 .bf16 := broadcastInDim S12x211x8x128 ![] bcast_S_S12x211x8x128 main_cst_0
  let main_v7 : IVec S12x211x8x128 1 := cmpf .olt main_v5 main_v6
  let main_v8 : FVec F S12x16x8x128 .f32 := Host.absf main_arg4
  let main_cst_1 : FVec F S_ .f32 := constant S_ .f32 0x7F800000#32
  let main_v9 : FVec F S12x16x8x128 .f32 := broadcastInDim S12x16x8x128 ![] bcast_S_S12x16x8x128 main_cst_1
  let main_v10 : IVec S12x16x8x128 1 := cmpf .olt main_v8 main_v9
  (main_v1, main_v4, main_v7, main_v10)
-- ==== Pre_lengths_ok.lean ====
abbrev S12x211x8192 : Shape := ⟨3, ![12, 211, 8192]⟩
abbrev S12x211x8x128 : Shape := ⟨4, ![12, 211, 8, 128]⟩
abbrev S12x2048x8x128 : Shape := ⟨4, ![12, 2048, 8, 128]⟩
abbrev S12x16x8x128 : Shape := ⟨4, ![12, 16, 8, 128]⟩
abbrev S12x2048x8 : Shape := ⟨3, ![12, 2048, 8]⟩
abbrev S12 : Shape := ⟨1, ![12]⟩
abbrev S_ : Shape := ⟨0, ![]⟩

class Facts : Prop where
  bcast_S_S12 : S_.BroadcastsInDim S12 (![] : Fin 0 → Fin S12.rank)

variable [Facts]

def fn {F : FTy → Type} [FloatOps F] (main_arg0 : FVec F S12x211x8192 .bf16) (main_arg1 : FVec F S12x211x8x128 .bf16) (main_arg2 : FVec F S12x211x8x128 .bf16) (main_arg3 : IVec S12x2048x8x128 8) (main_arg4 : FVec F S12x16x8x128 .f32) (main_arg5 : IVec S12x2048x8x128 8) (main_arg6 : FVec F S12x2048x8 .f32) (main_arg7 : IVec S12 32) : IVec S12 1 :=
  let main_c : IVec S_ 32 := constantI S_ 32 2048#32
  let main_v0 : IVec S12 32 := broadcastInDim S12 ![] bcast_S_S12 main_c
  let main_v1 : IVec S12 1 := cmpi .sle main_arg7 main_v0
  main_v1
-- ==== Kernel.lean ====
abbrev S12x211x8192 : Shape := ⟨3, ![12, 211, 8192]⟩
abbrev S12x211x8x128 : Shape := ⟨4, ![12, 211, 8, 128]⟩
abbrev S12x2048x8x128 : Shape := ⟨4, ![12, 2048, 8, 128]⟩
abbrev S12x16x8x128 : Shape := ⟨4, ![12, 16, 8, 128]⟩
abbrev S12x2048x8 : Shape := ⟨3, ![12, 2048, 8]⟩
abbrev S12 : Shape := ⟨1, ![12]⟩
abbrev S12x8x211x128 : Shape := ⟨4, ![12, 8, 211, 128]⟩
abbrev S_ : Shape := ⟨0, ![]⟩
abbrev S12x8x224x128 : Shape := ⟨4, ![12, 8, 224, 128]⟩
abbrev S1792 : Shape := ⟨1, ![1792]⟩
abbrev S1792x1 : Shape := ⟨2, ![1792, 1]⟩
abbrev S224 : Shape := ⟨1, ![224]⟩
abbrev S1x224 : Shape := ⟨2, ![1, 224]⟩
abbrev S1792x224 : Shape := ⟨2, ![1792, 224]⟩
abbrev S12x8x2048x128 : Shape := ⟨4, ![12, 8, 2048, 128]⟩
abbrev S12x8x16x128 : Shape := ⟨4, ![12, 8, 16, 128]⟩
abbrev S12x8x2048 : Shape := ⟨3, ![12, 8, 2048]⟩
abbrev S12x8x1x2048 : Shape := ⟨4, ![12, 8, 1, 2048]⟩
abbrev S1x211x1024 : Shape := ⟨3, ![1, 211, 1024]⟩
abbrev S1x1x224x128 : Shape := ⟨4, ![1, 1, 224, 128]⟩
abbrev S1x1x2048x128 : Shape := ⟨4, ![1, 1, 2048, 128]⟩
abbrev S1x1x16x128 : Shape := ⟨4, ![1, 1, 16, 128]⟩
abbrev S1x1x1x2048 : Shape := ⟨4, ![1, 1, 1, 2048]⟩
abbrev S1792x128 : Shape := ⟨2, ![1792, 128]⟩
abbrev S2048x128 : Shape := ⟨2, ![2048, 128]⟩
abbrev S1 : Shape := ⟨1, ![1]⟩
abbrev S224x128 : Shape := ⟨2, ![224, 128]⟩
abbrev S1x211x128 : Shape := ⟨3, ![1, 211, 128]⟩
abbrev S211x128 : Shape := ⟨2, ![211, 128]⟩
abbrev S13x128 : Shape := ⟨2, ![13, 128]⟩
abbrev S1x1x128x128 : Shape := ⟨4, ![1, 1, 128, 128]⟩
abbrev S128x128 : Shape := ⟨2, ![128, 128]⟩
abbrev S1x1x1x128 : Shape := ⟨4, ![1, 1, 1, 128]⟩
abbrev S1x128 : Shape := ⟨2, ![1, 128]⟩
abbrev S256x128 : Shape := ⟨2, ![256, 128]⟩
abbrev S256x224 : Shape := ⟨2, ![256, 224]⟩
abbrev S256 : Shape := ⟨1, ![256]⟩
abbrev S256x1 : Shape := ⟨2, ![256, 1]⟩
abbrev S512x128 : Shape := ⟨2, ![512, 128]⟩
abbrev S256x512 : Shape := ⟨2, ![256, 512]⟩
abbrev S1x1x1x512 : Shape := ⟨4, ![1, 1, 1, 512]⟩
abbrev S1x512 : Shape := ⟨2, ![1, 512]⟩

abbrev nBuf : Space → Nat
  | .hbm => 304
  | .vmem => 21
  | .smem => 1
  | _ => 0

abbrev hbmTy0_0 (i : Nat) : BufTy := match i % 128 with
  | 0 => ⟨S12x211x8192, .bf16⟩
  | 1 => ⟨S12x211x8x128, .bf16⟩
  | 2 => ⟨S12x211x8x128, .bf16⟩
  | 3 => ⟨S12x2048x8x128, .i8⟩
  | 4 => ⟨S12x16x8x128, .f32⟩
  | 5 => ⟨S12x2048x8x128, .i8⟩
  | 6 => ⟨S12x2048x8, .f32⟩
  | 7 => ⟨S12x8x211x128, .bf16⟩
  | 8 => ⟨S_, .i32⟩
  | 9 => ⟨S_, .bf16⟩
  | 10 => ⟨S12x8x224x128, .bf16⟩
  | 11 => ⟨S12x8x211x128, .bf16⟩
  | 12 => ⟨S_, .i32⟩
  | 13 => ⟨S_, .bf16⟩
  | 14 => ⟨S12x8x224x128, .bf16⟩
  | 15 => ⟨S1792, .i32⟩
  | 16 => ⟨S1792x1, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1792x1, .i32⟩
  | 24 => ⟨S1792x1, .i32⟩
  | 25 => ⟨S_, .i32⟩
  | 26 => ⟨S1792x1, .i32⟩
  | 27 => ⟨S1792x1, .i1⟩
  | 28 => ⟨S_, .i32⟩
  | 29 => ⟨S1792x1, .i32⟩
  | 30 => ⟨S1792x1, .i1⟩
  | 31 => ⟨S_, .i32⟩
  | 32 => ⟨S_, .i1⟩
  | 33 => ⟨S1792x1, .i1⟩
  | 34 => ⟨S1792x1, .i1⟩
  | 35 => ⟨S1792x1, .i1⟩
  | 36 => ⟨S1792x1, .i32⟩
  | 37 => ⟨S1792x1, .i32⟩
  | 38 => ⟨S1792x1, .i32⟩
  | 39 => ⟨S224, .i32⟩
  | 40 => ⟨S1x224, .i32⟩
  | 41 => ⟨S_, .i32⟩
  | 42 => ⟨S1792x1, .i32⟩
  | 43 => ⟨S1792x1, .i1⟩
  | 44 => ⟨S_, .i32⟩
  | 45 => ⟨S1792x1, .i32⟩
  | 46 => ⟨S1792x1, .i1⟩
  | 47 => ⟨S1792x1, .i1⟩
  | 48 => ⟨S_, .i32⟩
  | 49 => ⟨S1x224, .i32⟩
  | 50 => ⟨S1x224, .i1⟩
  | 51 => ⟨S_, .i32⟩
  | 52 => ⟨S1x224, .i32⟩
  | 53 => ⟨S1x224, .i1⟩
  | 54 => ⟨S1x224, .i1⟩
  | 55 => ⟨S_, .i32⟩
  | 56 => ⟨S1792x1, .i32⟩
  | 57 => ⟨S1792x1, .i32⟩
  | 58 => ⟨S_, .i32⟩
  | 59 => ⟨S_, .i32⟩
  | 60 => ⟨S1792x1, .i32⟩
  | 61 => ⟨S1792x1, .i32⟩
  | 62 => ⟨S1792x1, .i32⟩
  | 63 => ⟨S_, .i32⟩
  | 64 => ⟨S1792x1, .i32⟩
  | 65 => ⟨S1792x1, .i1⟩
  | 66 => ⟨S1792x1, .i32⟩
  | 67 => ⟨S1792x1, .i32⟩
  | 68 => ⟨S_, .i32⟩
  | 69 => ⟨S1792x1, .i32⟩
  | 70 => ⟨S1792x1, .i1⟩
  | 71 => ⟨S1792x1, .i1⟩
  | 72 => ⟨S_, .i32⟩
  | 73 => ⟨S1792x1, .i32⟩
  | 74 => ⟨S1792x1, .i32⟩
  | 75 => ⟨S1792x1, .i32⟩
  | 76 => ⟨S_, .i32⟩
  | 77 => ⟨S1792x1, .i32⟩
  | 78 => ⟨S1792x1, .i32⟩
  | 79 => ⟨S_, .i32⟩
  | 80 => ⟨S_, .i32⟩
  | 81 => ⟨S_, .i32⟩
  | 82 => ⟨S_, .i1⟩
  | 83 => ⟨S_, .i32⟩
  | 84 => ⟨S_, .i32⟩
  | 85 => ⟨S1792x1, .i32⟩
  | 86 => ⟨S1792x1, .i32⟩
  | 87 => ⟨S_, .i32⟩
  | 88 => ⟨S1792x1, .i32⟩
  | 89 => ⟨S1792x1, .i1⟩
  | 90 => ⟨S_, .i32⟩
  | 91 => ⟨S1792x1, .i32⟩
  | 92 => ⟨S1792x1, .i1⟩
  | 93 => ⟨S_, .i32⟩
  | 94 => ⟨S_, .i1⟩
  | 95 => ⟨S1792x1, .i1⟩
  | 96 => ⟨S1792x1, .i1⟩
  | 97 => ⟨S1792x1, .i1⟩
  | 98 => ⟨S1792x1, .i32⟩
  | 99 => ⟨S1792x1, .i32⟩
  | 100 => ⟨S1792x1, .i32⟩
  | 101 => ⟨S_, .i32⟩
  | 102 => ⟨S1x224, .i32⟩
  | 103 => ⟨S1x224, .i32⟩
  | 104 => ⟨S_, .i32⟩
  | 105 => ⟨S_, .i32⟩
  | 106 => ⟨S1x224, .i32⟩
  | 107 => ⟨S1x224, .i32⟩
  | 108 => ⟨S1x224, .i32⟩
  | 109 => ⟨S_, .i32⟩
  | 110 => ⟨S1x224, .i32⟩
  | 111 => ⟨S1x224, .i1⟩
  | 112 => ⟨S1x224, .i32⟩
  | 113 => ⟨S1x224, .i32⟩
  | 114 => ⟨S_, .i32⟩
  | 115 => ⟨S1x224, .i32⟩
  | 116 => ⟨S1x224, .i1⟩
  | 117 => ⟨S1x224, .i1⟩
  | 118 => ⟨S_, .i32⟩
  | 119 => ⟨S1x224, .i32⟩
  | 120 => ⟨S1x224, .i32⟩
  | 121 => ⟨S1x224, .i32⟩
  | 122 => ⟨S_, .i32⟩
  | 123 => ⟨S1x224, .i32⟩
  | 124 => ⟨S1x224, .i32⟩
  | 125 => ⟨S_, .i32⟩
  | 126 => ⟨S_, .i32⟩
  | 127 => ⟨S_, .i32⟩
  | _ => ⟨S12x211x8192, .bf16⟩

abbrev hbmTy0_1 (i : Nat) : BufTy := match i % 128 with
  | 0 => ⟨S_, .i1⟩
  | 1 => ⟨S_, .i32⟩
  | 2 => ⟨S_, .i32⟩
  | 3 => ⟨S1x224, .i32⟩
  | 4 => ⟨S1x224, .i32⟩
  | 5 => ⟨S_, .i32⟩
  | 6 => ⟨S1x224, .i32⟩
  | 7 => ⟨S1x224, .i1⟩
  | 8 => ⟨S_, .i32⟩
  | 9 => ⟨S1x224, .i32⟩
  | 10 => ⟨S1x224, .i1⟩
  | 11 => ⟨S_, .i32⟩
  | 12 => ⟨S_, .i1⟩
  | 13 => ⟨S1x224, .i1⟩
  | 14 => ⟨S1x224, .i1⟩
  | 15 => ⟨S1x224, .i1⟩
  | 16 => ⟨S1x224, .i32⟩
  | 17 => ⟨S1x224, .i32⟩
  | 18 => ⟨S1x224, .i32⟩
  | 19 => ⟨S1792x224, .i1⟩
  | 20 => ⟨S1792x224, .i1⟩
  | 21 => ⟨S1792x224, .i1⟩
  | 22 => ⟨S_, .i32⟩
  | 23 => ⟨S1x224, .i32⟩
  | 24 => ⟨S1x224, .i1⟩
  | 25 => ⟨S1792x224, .i32⟩
  | 26 => ⟨S1792x224, .i32⟩
  | 27 => ⟨S1792x224, .i1⟩
  | 28 => ⟨S1792x224, .i1⟩
  | 29 => ⟨S1792x224, .i1⟩
  | 30 => ⟨S_, .i32⟩
  | 31 => ⟨S1x224, .i32⟩
  | 32 => ⟨S1x224, .i1⟩
  | 33 => ⟨S1792x224, .i32⟩
  | 34 => ⟨S1792x224, .i32⟩
  | 35 => ⟨S1792x224, .i1⟩
  | 36 => ⟨S1792x224, .i1⟩
  | 37 => ⟨S1792x224, .i1⟩
  | 38 => ⟨S1792x224, .i32⟩
  | 39 => ⟨S1792x224, .i32⟩
  | 40 => ⟨S1792x224, .i1⟩
  | 41 => ⟨S1792x224, .i1⟩
  | 42 => ⟨S1792x224, .i1⟩
  | 43 => ⟨S1792x224, .i1⟩
  | 44 => ⟨S_, .i32⟩
  | 45 => ⟨S1792x1, .i32⟩
  | 46 => ⟨S1792x1, .i32⟩
  | 47 => ⟨S_, .i32⟩
  | 48 => ⟨S1792x1, .i32⟩
  | 49 => ⟨S1792x1, .i32⟩
  | 50 => ⟨S_, .i32⟩
  | 51 => ⟨S1x224, .i32⟩
  | 52 => ⟨S1x224, .i32⟩
  | 53 => ⟨S_, .i32⟩
  | 54 => ⟨S1x224, .i32⟩
  | 55 => ⟨S1x224, .i32⟩
  | 56 => ⟨S_, .i32⟩
  | 57 => ⟨S1792x1, .i32⟩
  | 58 => ⟨S1792x1, .i1⟩
  | 59 => ⟨S_, .i32⟩
  | 60 => ⟨S1x224, .i32⟩
  | 61 => ⟨S1x224, .i1⟩
  | 62 => ⟨S1792x224, .i1⟩
  | 63 => ⟨S1792x224, .i1⟩
  | 64 => ⟨S1792x224, .i1⟩
  | 65 => ⟨S_, .i32⟩
  | 66 => ⟨S1x224, .i32⟩
  | 67 => ⟨S1x224, .i1⟩
  | 68 => ⟨S1792x224, .i1⟩
  | 69 => ⟨S1792x224, .i1⟩
  | 70 => ⟨S_, .i32⟩
  | 71 => ⟨S_, .i32⟩
  | 72 => ⟨S1792x1, .i32⟩
  | 73 => ⟨S1792x1, .i32⟩
  | 74 => ⟨S1792x1, .i32⟩
  | 75 => ⟨S_, .i32⟩
  | 76 => ⟨S1792x1, .i32⟩
  | 77 => ⟨S1792x1, .i1⟩
  | 78 => ⟨S1792x1, .i32⟩
  | 79 => ⟨S1792x1, .i32⟩
  | 80 => ⟨S_, .i32⟩
  | 81 => ⟨S1792x1, .i32⟩
  | 82 => ⟨S1792x1, .i1⟩
  | 83 => ⟨S1792x1, .i1⟩
  | 84 => ⟨S_, .i32⟩
  | 85 => ⟨S1792x1, .i32⟩
  | 86 => ⟨S1792x1, .i32⟩
  | 87 => ⟨S1792x1, .i32⟩
  | 88 => ⟨S_, .i32⟩
  | 89 => ⟨S_, .i32⟩
  | 90 => ⟨S1x224, .i32⟩
  | 91 => ⟨S1x224, .i32⟩
  | 92 => ⟨S1x224, .i32⟩
  | 93 => ⟨S_, .i32⟩
  | 94 => ⟨S1x224, .i32⟩
  | 95 => ⟨S1x224, .i1⟩
  | 96 => ⟨S1x224, .i32⟩
  | 97 => ⟨S1x224, .i32⟩
  | 98 => ⟨S_, .i32⟩
  | 99 => ⟨S1x224, .i32⟩
  | 100 => ⟨S1x224, .i1⟩
  | 101 => ⟨S1x224, .i1⟩
  | 102 => ⟨S_, .i32⟩
  | 103 => ⟨S1x224, .i32⟩
  | 104 => ⟨S1x224, .i32⟩
  | 105 => ⟨S1x224, .i32⟩
  | 106 => ⟨S1792x224, .i32⟩
  | 107 => ⟨S1792x224, .i32⟩
  | 108 => ⟨S1792x224, .i1⟩
  | 109 => ⟨S1792x224, .i1⟩
  | 110 => ⟨S_, .i32⟩
  | 111 => ⟨S_, .i32⟩
  | 112 => ⟨S_, .i32⟩
  | 113 => ⟨S_, .i1⟩
  | 114 => ⟨S_, .i32⟩
  | 115 => ⟨S_, .i32⟩
  | 116 => ⟨S1x224, .i32⟩
  | 117 => ⟨S1x224, .i32⟩
  | 118 => ⟨S_, .i32⟩
  | 119 => ⟨S1x224, .i32⟩
  | 120 => ⟨S1x224, .i1⟩
  | 121 => ⟨S_, .i32⟩
  | 122 => ⟨S1x224, .i32⟩
  | 123 => ⟨S1x224, .i1⟩
  | 124 => ⟨S_, .i32⟩
  | 125 => ⟨S_, .i1⟩
  | 126 => ⟨S1x224, .i1⟩
  | 127 => ⟨S1x224, .i1⟩
  | _ => ⟨S12x211x8192, .bf16⟩

abbrev hbmTy0_2 (i : Nat) : BufTy := match i % 128 with
  | 0 => ⟨S1x224, .i1⟩
  | 1 => ⟨S1x224, .i32⟩
  | 2 => ⟨S1x224, .i32⟩
  | 3 => ⟨S1x224, .i32⟩
  | 4 => ⟨S_, .i32⟩
  | 5 => ⟨S_, .i32⟩
  | 6 => ⟨S_, .i32⟩
  | 7 => ⟨S_, .i1⟩
  | 8 => ⟨S_, .i32⟩
  | 9 => ⟨S_, .i32⟩
  | 10 => ⟨S1792x1, .i32⟩
  | 11 => ⟨S1792x1, .i32⟩
  | 12 => ⟨S_, .i32⟩
  | 13 => ⟨S1792x1, .i32⟩
  | 14 => ⟨S1792x1, .i1⟩
  | 15 => ⟨S_, .i32⟩
  | 16 => ⟨S1792x1, .i32⟩
  | 17 => ⟨S1792x1, .i1⟩
  | 18 => ⟨S_, .i32⟩
  | 19 => ⟨S_, .i1⟩
  | 20 => ⟨S1792x1, .i1⟩
  | 21 => ⟨S1792x1, .i1⟩
  | 22 => ⟨S1792x1, .i1⟩
  | 23 => ⟨S1792x1, .i32⟩
  | 24 => ⟨S1792x1, .i32⟩
  | 25 => ⟨S1792x1, .i32⟩
  | 26 => ⟨S1792x224, .i32⟩
  | 27 => ⟨S1792x224, .i32⟩
  | 28 => ⟨S1792x224, .i1⟩
  | 29 => ⟨S1792x224, .i1⟩
  | 30 => ⟨S_, .i32⟩
  | 31 => ⟨S1x224, .i32⟩
  | 32 => ⟨S1x224, .i1⟩
  | 33 => ⟨S1792x224, .i1⟩
  | 34 => ⟨S1792x224, .i1⟩
  | 35 => ⟨S1792x224, .i1⟩
  | 36 => ⟨S_, .f32⟩
  | 37 => ⟨S_, .f32⟩
  | 38 => ⟨S1792x224, .f32⟩
  | 39 => ⟨S1792x224, .f32⟩
  | 40 => ⟨S1792x224, .f32⟩
  | 41 => ⟨S1792x224, .f32⟩
  | 42 => ⟨S12x8x2048x128, .i8⟩
  | 43 => ⟨S12x8x16x128, .f32⟩
  | 44 => ⟨S12x8x2048x128, .i8⟩
  | 45 => ⟨S12x8x2048, .f32⟩
  | 46 => ⟨S12x8x1x2048, .f32⟩
  | 47 => ⟨S12x211x8192, .bf16⟩
  | _ => ⟨S12x211x8192, .bf16⟩

abbrev hbmTy (i : Nat) : BufTy := match i / 128 with
  | 0 => hbmTy0_0 i
  | 1 => hbmTy0_1 i
  | 2 => hbmTy0_2 i
  | _ => ⟨S12x211x8192, .bf16⟩

abbrev bufTy : (tb : Table) → Fin (tcTables nBuf tb) → BufTy
  | .hbm, ⟨i, _⟩ => hbmTy i
  | .local _ .vmem, ⟨0, _⟩ => ⟨S1x211x1024, .bf16⟩
  | .local _ .vmem, ⟨1, _⟩ => ⟨S1x211x1024, .bf16⟩
  | .local _ .vmem, ⟨2, _⟩ => ⟨S1x1x224x128, .bf16⟩
  | .local _ .vmem, ⟨3, _⟩ => ⟨S1x1x224x128, .bf16⟩
  | .local _ .vmem, ⟨4, _⟩ => ⟨S1x1x224x128, .bf16⟩
  | .local _ .vmem, ⟨5, _⟩ => ⟨S1x1x224x128, .bf16⟩
  | .local _ .vmem, ⟨6, _⟩ => ⟨S1x1x2048x128, .i8⟩
  | .local _ .vmem, ⟨7, _⟩ => ⟨S1x1x2048x128, .i8⟩
  | .local _ .vmem, ⟨8, _⟩ => ⟨S1x1x16x128, .f32⟩
  | .local _ .vmem, ⟨9, _⟩ => ⟨S1x1x16x128, .f32⟩
  | .local _ .vmem, ⟨10, _⟩ => ⟨S1x1x2048x128, .i8⟩
  | .local _ .vmem, ⟨11, _⟩ => ⟨S1x1x2048x128, .i8⟩
  | .local _ .vmem, ⟨12, _⟩ => ⟨S1x1x1x2048, .f32⟩
  | .local _ .vmem, ⟨13, _⟩ => ⟨S1x1x1x2048, .f32⟩
  | .local _ .vmem, ⟨14, _⟩ => ⟨S1792x224, .f32⟩
  | .local _ .vmem, ⟨15, _⟩ => ⟨S1x211x1024, .bf16⟩
  | .local _ .vmem, ⟨16, _⟩ => ⟨S1x211x1024, .bf16⟩
  | .local _ .vmem, ⟨17, _⟩ => ⟨S1792x128, .bf16⟩
  | .local _ .vmem, ⟨18, _⟩ => ⟨S2048x128, .bf16⟩
  | .local _ .vmem, ⟨19, _⟩ => ⟨S2048x128, .bf16⟩
  | .local _ .vmem, ⟨20, _⟩ => ⟨S1792x128, .bf16⟩
  | .local _ .smem, ⟨0, _⟩ => ⟨S12, .i32⟩
  | _, _ => ⟨S12x211x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_call1_v0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_call2_c : Ref sig .tc := ⟨.hbm, 19, rfl⟩
abbrev main_call2_v1 : Ref sig .tc := ⟨.hbm, 20, rfl⟩
abbrev main_call2_c_0 : Ref sig .tc := ⟨.hbm, 21, rfl⟩
abbrev main_call2_v2 : Ref sig .tc := ⟨.hbm, 22, rfl⟩
abbrev main_call2_v3 : Ref sig .tc := ⟨.hbm, 23, rfl⟩
abbrev main_call2_v4 : Ref sig .tc := ⟨.hbm, 24, rfl⟩
abbrev main_call2_c_1 : Ref sig .tc := ⟨.hbm, 25, rfl⟩
abbrev main_call2_v5 : Ref sig .tc := ⟨.hbm, 26, rfl⟩
abbrev main_call2_v6 : Ref sig .tc := ⟨.hbm, 27, rfl⟩
abbrev main_call2_c_2 : Ref sig .tc := ⟨.hbm, 28, rfl⟩
abbrev main_call2_v7 : Ref sig .tc := ⟨.hbm, 29, rfl⟩
abbrev main_call2_v8 : Ref sig .tc := ⟨.hbm, 30, rfl⟩
abbrev main_call2_c_3 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_v12 : Ref sig .tc := ⟨.hbm, 35, rfl⟩
abbrev main_call2_v13 : Ref sig .tc := ⟨.hbm, 36, rfl⟩
abbrev main_call2_v14 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_c_2 : Ref sig .tc := ⟨.hbm, 41, rfl⟩
abbrev main_v9 : Ref sig .tc := ⟨.hbm, 42, rfl⟩
abbrev main_v10 : Ref sig .tc := ⟨.hbm, 43, rfl⟩
abbrev main_c_3 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_c_4 : Ref sig .tc := ⟨.hbm, 48, rfl⟩
abbrev main_v14 : Ref sig .tc := ⟨.hbm, 49, rfl⟩
abbrev main_v15 : Ref sig .tc := ⟨.hbm, 50, rfl⟩
abbrev main_c_5 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_c_6 : Ref sig .tc := ⟨.hbm, 55, rfl⟩
abbrev main_v19 : Ref sig .tc := ⟨.hbm, 56, rfl⟩
abbrev main_v20 : Ref sig .tc := ⟨.hbm, 57, rfl⟩
abbrev main_c_7 : Ref sig .tc := ⟨.hbm, 58, rfl⟩
abbrev main_call3_v0 : Ref sig .tc := ⟨.hbm, 59, rfl⟩
abbrev main_call3_v1 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_v5 : Ref sig .tc := ⟨.hbm, 64, rfl⟩
abbrev main_call3_v6 : Ref sig .tc := ⟨.hbm, 65, rfl⟩
abbrev main_call3_v7 : Ref sig .tc := ⟨.hbm, 66, rfl⟩
abbrev main_call3_v8 : Ref sig .tc := ⟨.hbm, 67, rfl⟩
abbrev main_call3_c : Ref sig .tc := ⟨.hbm, 68, rfl⟩
abbrev main_call3_v9 : Ref sig .tc := ⟨.hbm, 69, rfl⟩
abbrev main_call3_v10 : Ref sig .tc := ⟨.hbm, 70, rfl⟩
abbrev main_call3_v11 : Ref sig .tc := ⟨.hbm, 71, rfl⟩
abbrev main_call3_c_0 : Ref sig .tc := ⟨.hbm, 72, rfl⟩
abbrev main_call3_v12 : Ref sig .tc := ⟨.hbm, 73, rfl⟩
abbrev main_call3_v13 : Ref sig .tc := ⟨.hbm, 74, rfl⟩
abbrev main_v21 : Ref sig .tc := ⟨.hbm, 75, rfl⟩
abbrev main_c_8 : Ref sig .tc := ⟨.hbm, 76, rfl⟩
abbrev main_v22 : Ref sig .tc := ⟨.hbm, 77, rfl⟩
abbrev main_v23 : Ref sig .tc := ⟨.hbm, 78, rfl⟩
abbrev main_c_9 : Ref sig .tc := ⟨.hbm, 79, rfl⟩
abbrev main_call4_v0 : Ref sig .tc := ⟨.hbm, 80, rfl⟩
abbrev main_call4_c : Ref sig .tc := ⟨.hbm, 81, rfl⟩
abbrev main_call4_v1 : Ref sig .tc := ⟨.hbm, 82, rfl⟩
abbrev main_call4_c_0 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_c_1 : Ref sig .tc := ⟨.hbm, 87, rfl⟩
abbrev main_call4_v5 : Ref sig .tc := ⟨.hbm, 88, rfl⟩
abbrev main_call4_v6 : Ref sig .tc := ⟨.hbm, 89, rfl⟩
abbrev main_call4_c_2 : Ref sig .tc := ⟨.hbm, 90, rfl⟩
abbrev main_call4_v7 : Ref sig .tc := ⟨.hbm, 91, rfl⟩
abbrev main_call4_v8 : Ref sig .tc := ⟨.hbm, 92, rfl⟩
abbrev main_call4_c_3 : Ref sig .tc := ⟨.hbm, 93, rfl⟩
abbrev main_call4_v9 : Ref sig .tc := ⟨.hbm, 94, rfl⟩
abbrev main_call4_v10 : Ref sig .tc := ⟨.hbm, 95, rfl⟩
abbrev main_call4_v11 : Ref sig .tc := ⟨.hbm, 96, rfl⟩
abbrev main_call4_v12 : Ref sig .tc := ⟨.hbm, 97, rfl⟩
abbrev main_call4_v13 : Ref sig .tc := ⟨.hbm, 98, rfl⟩
abbrev main_call4_v14 : Ref sig .tc := ⟨.hbm, 99, rfl⟩
abbrev main_v24 : Ref sig .tc := ⟨.hbm, 100, rfl⟩
abbrev main_c_10 : Ref sig .tc := ⟨.hbm, 101, rfl⟩
abbrev main_v25 : Ref sig .tc := ⟨.hbm, 102, rfl⟩
abbrev main_v26 : Ref sig .tc := ⟨.hbm, 103, rfl⟩
abbrev main_c_11 : Ref sig .tc := ⟨.hbm, 104, rfl⟩
abbrev main_call5_v0 : Ref sig .tc := ⟨.hbm, 105, rfl⟩
abbrev main_call5_v1 : Ref sig .tc := ⟨.hbm, 106, rfl⟩
abbrev main_call5_v2 : Ref sig .tc := ⟨.hbm, 107, rfl⟩
abbrev main_call5_v3 : Ref sig .tc := ⟨.hbm, 108, rfl⟩
abbrev main_call5_v4 : Ref sig .tc := ⟨.hbm, 109, rfl⟩
abbrev main_call5_v5 : Ref sig .tc := ⟨.hbm, 110, rfl⟩
abbrev main_call5_v6 : Ref sig .tc := ⟨.hbm, 111, rfl⟩
abbrev main_call5_v7 : Ref sig .tc := ⟨.hbm, 112, rfl⟩
abbrev main_call5_v8 : Ref sig .tc := ⟨.hbm, 113, rfl⟩
abbrev main_call5_c : Ref sig .tc := ⟨.hbm, 114, rfl⟩
abbrev main_call5_v9 : Ref sig .tc := ⟨.hbm, 115, rfl⟩
abbrev main_call5_v10 : Ref sig .tc := ⟨.hbm, 116, rfl⟩
abbrev main_call5_v11 : Ref sig .tc := ⟨.hbm, 117, rfl⟩
abbrev main_call5_c_0 : Ref sig .tc := ⟨.hbm, 118, rfl⟩
abbrev main_call5_v12 : Ref sig .tc := ⟨.hbm, 119, rfl⟩
abbrev main_call5_v13 : Ref sig .tc := ⟨.hbm, 120, rfl⟩
abbrev main_v27 : Ref sig .tc := ⟨.hbm, 121, rfl⟩
abbrev main_c_12 : Ref sig .tc := ⟨.hbm, 122, rfl⟩
abbrev main_v28 : Ref sig .tc := ⟨.hbm, 123, rfl⟩
abbrev main_v29 : Ref sig .tc := ⟨.hbm, 124, rfl⟩
abbrev main_c_13 : Ref sig .tc := ⟨.hbm, 125, rfl⟩
abbrev main_call6_v0 : Ref sig .tc := ⟨.hbm, 126, rfl⟩
abbrev main_call6_c : Ref sig .tc := ⟨.hbm, 127, rfl⟩
abbrev main_call6_v1 : Ref sig .tc := ⟨.hbm, 128, rfl⟩
abbrev main_call6_c_0 : Ref sig .tc := ⟨.hbm, 129, rfl⟩
abbrev main_call6_v2 : Ref sig .tc := ⟨.hbm, 130, rfl⟩
abbrev main_call6_v3 : Ref sig .tc := ⟨.hbm, 131, rfl⟩
abbrev main_call6_v4 : Ref sig .tc := ⟨.hbm, 132, rfl⟩
abbrev main_call6_c_1 : Ref sig .tc := ⟨.hbm, 133, rfl⟩
abbrev main_call6_v5 : Ref sig .tc := ⟨.hbm, 134, rfl⟩
abbrev main_call6_v6 : Ref sig .tc := ⟨.hbm, 135, rfl⟩
abbrev main_call6_c_2 : Ref sig .tc := ⟨.hbm, 136, rfl⟩
abbrev main_call6_v7 : Ref sig .tc := ⟨.hbm, 137, rfl⟩
abbrev main_call6_v8 : Ref sig .tc := ⟨.hbm, 138, rfl⟩
abbrev main_call6_c_3 : Ref sig .tc := ⟨.hbm, 139, rfl⟩
abbrev main_call6_v9 : Ref sig .tc := ⟨.hbm, 140, rfl⟩
abbrev main_call6_v10 : Ref sig .tc := ⟨.hbm, 141, rfl⟩
abbrev main_call6_v11 : Ref sig .tc := ⟨.hbm, 142, rfl⟩
abbrev main_call6_v12 : Ref sig .tc := ⟨.hbm, 143, rfl⟩
abbrev main_call6_v13 : Ref sig .tc := ⟨.hbm, 144, rfl⟩
abbrev main_call6_v14 : Ref sig .tc := ⟨.hbm, 145, rfl⟩
abbrev main_v30 : Ref sig .tc := ⟨.hbm, 146, rfl⟩
abbrev main_v31 : Ref sig .tc := ⟨.hbm, 147, rfl⟩
abbrev main_v32 : Ref sig .tc := ⟨.hbm, 148, rfl⟩
abbrev main_v33 : Ref sig .tc := ⟨.hbm, 149, rfl⟩
abbrev main_c_14 : Ref sig .tc := ⟨.hbm, 150, rfl⟩
abbrev main_v34 : Ref sig .tc := ⟨.hbm, 151, rfl⟩
abbrev main_v35 : Ref sig .tc := ⟨.hbm, 152, rfl⟩
abbrev main_v36 : Ref sig .tc := ⟨.hbm, 153, rfl⟩
abbrev main_v37 : Ref sig .tc := ⟨.hbm, 154, rfl⟩
abbrev main_v38 : Ref sig .tc := ⟨.hbm, 155, rfl⟩
abbrev main_v39 : Ref sig .tc := ⟨.hbm, 156, rfl⟩
abbrev main_v40 : Ref sig .tc := ⟨.hbm, 157, rfl⟩
abbrev main_c_15 : Ref sig .tc := ⟨.hbm, 158, rfl⟩
abbrev main_v41 : Ref sig .tc := ⟨.hbm, 159, rfl⟩
abbrev main_v42 : Ref sig .tc := ⟨.hbm, 160, rfl⟩
abbrev main_v43 : Ref sig .tc := ⟨.hbm, 161, rfl⟩
abbrev main_v44 : Ref sig .tc := ⟨.hbm, 162, rfl⟩
abbrev main_v45 : Ref sig .tc := ⟨.hbm, 163, rfl⟩
abbrev main_v46 : Ref sig .tc := ⟨.hbm, 164, rfl⟩
abbrev main_v47 : Ref sig .tc := ⟨.hbm, 165, rfl⟩
abbrev main_v48 : Ref sig .tc := ⟨.hbm, 166, rfl⟩
abbrev main_v49 : Ref sig .tc := ⟨.hbm, 167, rfl⟩
abbrev main_v50 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_c_16 : Ref sig .tc := ⟨.hbm, 172, rfl⟩
abbrev main_v54 : Ref sig .tc := ⟨.hbm, 173, rfl⟩
abbrev main_v55 : Ref sig .tc := ⟨.hbm, 174, rfl⟩
abbrev main_c_17 : Ref sig .tc := ⟨.hbm, 175, rfl⟩
abbrev main_v56 : Ref sig .tc := ⟨.hbm, 176, rfl⟩
abbrev main_v57 : Ref sig .tc := ⟨.hbm, 177, rfl⟩
abbrev main_c_18 : Ref sig .tc := ⟨.hbm, 178, rfl⟩
abbrev main_v58 : Ref sig .tc := ⟨.hbm, 179, rfl⟩
abbrev main_v59 : Ref sig .tc := ⟨.hbm, 180, rfl⟩
abbrev main_c_19 : Ref sig .tc := ⟨.hbm, 181, rfl⟩
abbrev main_v60 : Ref sig .tc := ⟨.hbm, 182, rfl⟩
abbrev main_v61 : Ref sig .tc := ⟨.hbm, 183, rfl⟩
abbrev main_c_20 : Ref sig .tc := ⟨.hbm, 184, rfl⟩
abbrev main_v62 : Ref sig .tc := ⟨.hbm, 185, rfl⟩
abbrev main_v63 : Ref sig .tc := ⟨.hbm, 186, rfl⟩
abbrev main_c_21 : Ref sig .tc := ⟨.hbm, 187, rfl⟩
abbrev main_v64 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_c_22 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩
abbrev main_v72 : Ref sig .tc := ⟨.hbm, 197, rfl⟩
abbrev main_c_23 : Ref sig .tc := ⟨.hbm, 198, rfl⟩
abbrev main_call7_v0 : Ref sig .tc := ⟨.hbm, 199, rfl⟩
abbrev main_call7_v1 : Ref sig .tc := ⟨.hbm, 200, rfl⟩
abbrev main_call7_v2 : Ref sig .tc := ⟨.hbm, 201, rfl⟩
abbrev main_call7_v3 : Ref sig .tc := ⟨.hbm, 202, rfl⟩
abbrev main_call7_v4 : Ref sig .tc := ⟨.hbm, 203, rfl⟩
abbrev main_call7_v5 : Ref sig .tc := ⟨.hbm, 204, rfl⟩
abbrev main_call7_v6 : Ref sig .tc := ⟨.hbm, 205, rfl⟩
abbrev main_call7_v7 : Ref sig .tc := ⟨.hbm, 206, rfl⟩
abbrev main_call7_v8 : Ref sig .tc := ⟨.hbm, 207, rfl⟩
abbrev main_call7_c : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_0 : Ref sig .tc := ⟨.hbm, 212, rfl⟩
abbrev main_call7_v12 : Ref sig .tc := ⟨.hbm, 213, rfl⟩
abbrev main_call7_v13 : Ref sig .tc := ⟨.hbm, 214, rfl⟩
abbrev main_v73 : Ref sig .tc := ⟨.hbm, 215, rfl⟩
abbrev main_c_24 : Ref sig .tc := ⟨.hbm, 216, rfl⟩
abbrev main_call8_v0 : Ref sig .tc := ⟨.hbm, 217, rfl⟩
abbrev main_call8_v1 : Ref sig .tc := ⟨.hbm, 218, rfl⟩
abbrev main_call8_v2 : Ref sig .tc := ⟨.hbm, 219, rfl⟩
abbrev main_call8_v3 : Ref sig .tc := ⟨.hbm, 220, rfl⟩
abbrev main_call8_v4 : Ref sig .tc := ⟨.hbm, 221, rfl⟩
abbrev main_call8_v5 : Ref sig .tc := ⟨.hbm, 222, rfl⟩
abbrev main_call8_v6 : Ref sig .tc := ⟨.hbm, 223, rfl⟩
abbrev main_call8_v7 : Ref sig .tc := ⟨.hbm, 224, rfl⟩
abbrev main_call8_v8 : Ref sig .tc := ⟨.hbm, 225, rfl⟩
abbrev main_call8_c : Ref sig .tc := ⟨.hbm, 226, rfl⟩
abbrev main_call8_v9 : Ref sig .tc := ⟨.hbm, 227, rfl⟩
abbrev main_call8_v10 : Ref sig .tc := ⟨.hbm, 228, rfl⟩
abbrev main_call8_v11 : Ref sig .tc := ⟨.hbm, 229, rfl⟩
abbrev main_call8_c_0 : Ref sig .tc := ⟨.hbm, 230, rfl⟩
abbrev main_call8_v12 : Ref sig .tc := ⟨.hbm, 231, rfl⟩
abbrev main_call8_v13 : Ref sig .tc := ⟨.hbm, 232, rfl⟩
abbrev main_v74 : Ref sig .tc := ⟨.hbm, 233, rfl⟩
abbrev main_v75 : Ref sig .tc := ⟨.hbm, 234, rfl⟩
abbrev main_v76 : Ref sig .tc := ⟨.hbm, 235, rfl⟩
abbrev main_v77 : Ref sig .tc := ⟨.hbm, 236, rfl⟩
abbrev main_v78 : Ref sig .tc := ⟨.hbm, 237, rfl⟩
abbrev main_c_25 : Ref sig .tc := ⟨.hbm, 238, rfl⟩
abbrev main_call9_v0 : Ref sig .tc := ⟨.hbm, 239, rfl⟩
abbrev main_call9_c : Ref sig .tc := ⟨.hbm, 240, rfl⟩
abbrev main_call9_v1 : Ref sig .tc := ⟨.hbm, 241, rfl⟩
abbrev main_call9_c_0 : Ref sig .tc := ⟨.hbm, 242, rfl⟩
abbrev main_call9_v2 : Ref sig .tc := ⟨.hbm, 243, rfl⟩
abbrev main_call9_v3 : Ref sig .tc := ⟨.hbm, 244, rfl⟩
abbrev main_call9_v4 : Ref sig .tc := ⟨.hbm, 245, rfl⟩
abbrev main_call9_c_1 : Ref sig .tc := ⟨.hbm, 246, rfl⟩
abbrev main_call9_v5 : Ref sig .tc := ⟨.hbm, 247, rfl⟩
abbrev main_call9_v6 : Ref sig .tc := ⟨.hbm, 248, rfl⟩
abbrev main_call9_c_2 : Ref sig .tc := ⟨.hbm, 249, rfl⟩
abbrev main_call9_v7 : Ref sig .tc := ⟨.hbm, 250, rfl⟩
abbrev main_call9_v8 : Ref sig .tc := ⟨.hbm, 251, rfl⟩
abbrev main_call9_c_3 : Ref sig .tc := ⟨.hbm, 252, rfl⟩
abbrev main_call9_v9 : Ref sig .tc := ⟨.hbm, 253, rfl⟩
abbrev main_call9_v10 : Ref sig .tc := ⟨.hbm, 254, rfl⟩
abbrev main_call9_v11 : Ref sig .tc := ⟨.hbm, 255, rfl⟩
abbrev main_call9_v12 : Ref sig .tc := ⟨.hbm, 256, rfl⟩
abbrev main_call9_v13 : Ref sig .tc := ⟨.hbm, 257, rfl⟩
abbrev main_call9_v14 : Ref sig .tc := ⟨.hbm, 258, rfl⟩
abbrev main_v79 : Ref sig .tc := ⟨.hbm, 259, rfl⟩
abbrev main_c_26 : Ref sig .tc := ⟨.hbm, 260, rfl⟩
abbrev main_call10_v0 : Ref sig .tc := ⟨.hbm, 261, rfl⟩
abbrev main_call10_c : Ref sig .tc := ⟨.hbm, 262, rfl⟩
abbrev main_call10_v1 : Ref sig .tc := ⟨.hbm, 263, rfl⟩
abbrev main_call10_c_0 : Ref sig .tc := ⟨.hbm, 264, rfl⟩
abbrev main_call10_v2 : Ref sig .tc := ⟨.hbm, 265, rfl⟩
abbrev main_call10_v3 : Ref sig .tc := ⟨.hbm, 266, rfl⟩
abbrev main_call10_v4 : Ref sig .tc := ⟨.hbm, 267, rfl⟩
abbrev main_call10_c_1 : Ref sig .tc := ⟨.hbm, 268, rfl⟩
abbrev main_call10_v5 : Ref sig .tc := ⟨.hbm, 269, rfl⟩
abbrev main_call10_v6 : Ref sig .tc := ⟨.hbm, 270, rfl⟩
abbrev main_call10_c_2 : Ref sig .tc := ⟨.hbm, 271, rfl⟩
abbrev main_call10_v7 : Ref sig .tc := ⟨.hbm, 272, rfl⟩
abbrev main_call10_v8 : Ref sig .tc := ⟨.hbm, 273, rfl⟩
abbrev main_call10_c_3 : Ref sig .tc := ⟨.hbm, 274, rfl⟩
abbrev main_call10_v9 : Ref sig .tc := ⟨.hbm, 275, rfl⟩
abbrev main_call10_v10 : Ref sig .tc := ⟨.hbm, 276, rfl⟩
abbrev main_call10_v11 : Ref sig .tc := ⟨.hbm, 277, rfl⟩
abbrev main_call10_v12 : Ref sig .tc := ⟨.hbm, 278, rfl⟩
abbrev main_call10_v13 : Ref sig .tc := ⟨.hbm, 279, rfl⟩
abbrev main_call10_v14 : Ref sig .tc := ⟨.hbm, 280, rfl⟩
abbrev main_v80 : Ref sig .tc := ⟨.hbm, 281, rfl⟩
abbrev main_v81 : Ref sig .tc := ⟨.hbm, 282, rfl⟩
abbrev main_v82 : Ref sig .tc := ⟨.hbm, 283, rfl⟩
abbrev main_v83 : Ref sig .tc := ⟨.hbm, 284, rfl⟩
abbrev main_v84 : Ref sig .tc := ⟨.hbm, 285, rfl⟩
abbrev main_c_27 : Ref sig .tc := ⟨.hbm, 286, rfl⟩
abbrev main_v85 : Ref sig .tc := ⟨.hbm, 287, rfl⟩
abbrev main_v86 : Ref sig .tc := ⟨.hbm, 288, rfl⟩
abbrev main_v87 : Ref sig .tc := ⟨.hbm, 289, rfl⟩
abbrev main_v88 : Ref sig .tc := ⟨.hbm, 290, rfl⟩
abbrev main_v89 : Ref sig .tc := ⟨.hbm, 291, rfl⟩
abbrev main_cst : Ref sig .tc := ⟨.hbm, 292, rfl⟩
abbrev main_cst_28 : Ref sig .tc := ⟨.hbm, 293, rfl⟩
abbrev main_call11_v0 : Ref sig .tc := ⟨.hbm, 294, rfl⟩
abbrev main_call11_v1 : Ref sig .tc := ⟨.hbm, 295, rfl⟩
abbrev main_v90 : Ref sig .tc := ⟨.hbm, 296, rfl⟩
abbrev main_v91 : Ref sig .tc := ⟨.hbm, 297, rfl⟩
abbrev main_v92 : Ref sig .tc := ⟨.hbm, 298, rfl⟩
abbrev main_v93 : Ref sig .tc := ⟨.hbm, 299, rfl⟩
abbrev main_v94 : Ref sig .tc := ⟨.hbm, 300, rfl⟩
abbrev main_v95 : Ref sig .tc := ⟨.hbm, 301, rfl⟩
abbrev main_v96 : Ref sig .tc := ⟨.hbm, 302, rfl⟩
abbrev main_v97 : Ref sig .tc := ⟨.hbm, 303, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![12, 8], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
@[reducible] def k0_t1_loop : Scf.Loop 32 :=
  let c0_i32 : BitVec 32 := 0#32
  let c7_i32 : BitVec 32 := 7#32
  let v381 : BitVec 32 := Scalar.addi c0_i32 c7_i32
  let c1_i32 : BitVec 32 := 1#32
  ⟨c0_i32, v381, c1_i32⟩
def k0_mult1 (k0_t1 : Fin k0_t1_loop.trips) : BitVec 32 :=
  let c0_i32_323 : BitVec 32 := 0#32
  let c0_i32 : BitVec 32 := 0#32
  let c1_i32 : BitVec 32 := 1#32
  let arg16 : BitVec 32 := Scf.iv c0_i32 c1_i32 k0_t1
  let c1_i32_322 : BitVec 32 := 1#32
  let v414 : BitVec 32 := Scalar.muli arg16 c1_i32_322
  let v415 : BitVec 32 := Scalar.addi c0_i32_323 v414
  let c256_i32 : BitVec 32 := 256#32
  let v416 : BitVec 32 := Scalar.muli v415 c256_i32
  v416
def k0_off2 (k0_t1 : Fin k0_t1_loop.trips) : Fin 2 → Nat :=
  let c0_i32_323 : BitVec 32 := 0#32
  let c0_i32 : BitVec 32 := 0#32
  let c1_i32 : BitVec 32 := 1#32
  let arg16 : BitVec 32 := Scf.iv c0_i32 c1_i32 k0_t1
  let c1_i32_322 : BitVec 32 := 1#32
  let v414 : BitVec 32 := Scalar.muli arg16 c1_i32_322
  let v415 : BitVec 32 := Scalar.addi c0_i32_323 v414
  let c256_i32 : BitVec 32 := 256#32
  let v416 : BitVec 32 := Scalar.muli v415 c256_i32
  let v417 : BitVec 32 := v416
  let v418 : Index := Scalar.indexCast v417
  let c0_324 : Index := 0#32
  ![v418.toNat, 0]
def k0_off3 (k0_t1 : Fin k0_t1_loop.trips) : Fin 2 → Nat :=
  let c0_i32_323 : BitVec 32 := 0#32
  let c0_i32 : BitVec 32 := 0#32
  let c1_i32 : BitVec 32 := 1#32
  let arg16 : BitVec 32 := Scf.iv c0_i32 c1_i32 k0_t1
  let c1_i32_322 : BitVec 32 := 1#32
  let v414 : BitVec 32 := Scalar.muli arg16 c1_i32_322
  let v415 : BitVec 32 := Scalar.addi c0_i32_323 v414
  let c256_i32 : BitVec 32 := 256#32
  let v416 : BitVec 32 := Scalar.muli v415 c256_i32
  let v417 : BitVec 32 := v416
  let v425 : Index := Scalar.indexCast v417
  let c0_331 : Index := 0#32
  ![v425.toNat, 0]
@[reducible] def k0_t2_loop (v1 : BitVec 32) : Scf.Loop 32 :=
  let c0_i32_342 : BitVec 32 := 0#32
  let c511_i32 : BitVec 32 := 511#32
  let v379 : BitVec 32 := Scalar.addi v1 c511_i32
  let c512_i32 : BitVec 32 := 512#32
  let v380 : BitVec 32 := Scalar.divsi v379 c512_i32
  let v445 : BitVec 32 := Scalar.subi v380 c0_i32_342
  let c1_i32_343 : BitVec 32 := 1#32
  let v447 : BitVec 32 := Scalar.divsi v445 c1_i32_343
  let v448 : BitVec 32 := Scalar.muli v447 c1_i32_343
  let v449 : BitVec 32 := Scalar.addi c0_i32_342 v448
  let c1_i32_344 : BitVec 32 := 1#32
  ⟨c0_i32_342, v449, c1_i32_344⟩

def k0_mult2 (v1 : BitVec 32) (k0_t2 : Fin (k0_t2_loop v1).trips) : BitVec 32 :=
  let c0_i32_342 : BitVec 32 := 0#32
  let c1_i32_344 : BitVec 32 := 1#32
  let arg17 : BitVec 32 := Scf.iv c0_i32_342 c1_i32_344 k0_t2
  let c512_i32_347 : BitVec 32 := 512#32
  let v459 : BitVec 32 := Scalar.muli arg17 c512_i32_347
  v459
def k0_off4 (v1 : BitVec 32) (k0_t2 : Fin (k0_t2_loop v1).trips) : Fin 2 → Nat :=
  let c0_i32_342 : BitVec 32 := 0#32
  let c1_i32_344 : BitVec 32 := 1#32
  let arg17 : BitVec 32 := Scf.iv c0_i32_342 c1_i32_344 k0_t2
  let c512_i32_347 : BitVec 32 := 512#32
  let v459 : BitVec 32 := Scalar.muli arg17 c512_i32_347
  let v460 : BitVec 32 := v459
  let v461 : Index := Scalar.indexCast v460
  let c0_348 : Index := 0#32
  ![v461.toNat, 0]
def k0_off5 (v1 : BitVec 32) (k0_t2 : Fin (k0_t2_loop v1).trips) : Fin 4 → Nat :=
  let c0_355 : Index := 0#32
  let c0_356 : Index := 0#32
  let c0_357 : Index := 0#32
  let c0_i32_342 : BitVec 32 := 0#32
  let c1_i32_344 : BitVec 32 := 1#32
  let arg17 : BitVec 32 := Scf.iv c0_i32_342 c1_i32_344 k0_t2
  let c512_i32_347 : BitVec 32 := 512#32
  let v459 : BitVec 32 := Scalar.muli arg17 c512_i32_347
  let v460 : BitVec 32 := v459
  let v486 : Index := Scalar.indexCast v460
  ![0, 0, 0, v486.toNat]
@[reducible] def k0_t3_loop (v1 : BitVec 32) : Scf.Loop 32 :=
  let c0_i32_342 : BitVec 32 := 0#32
  let c511_i32 : BitVec 32 := 511#32
  let v379 : BitVec 32 := Scalar.addi v1 c511_i32
  let c512_i32 : BitVec 32 := 512#32
  let v380 : BitVec 32 := Scalar.divsi v379 c512_i32
  let v445 : BitVec 32 := Scalar.subi v380 c0_i32_342
  let c1_i32_343 : BitVec 32 := 1#32
  let v447 : BitVec 32 := Scalar.divsi v445 c1_i32_343
  let v448 : BitVec 32 := Scalar.muli v447 c1_i32_343
  let v449 : BitVec 32 := Scalar.addi c0_i32_342 v448
  let v446 : BitVec 32 := Scalar.addi c0_i32_342 v445
  let c1_i32_345 : BitVec 32 := 1#32
  ⟨v449, v446, c1_i32_345⟩
def k0_mult3 (v1 : BitVec 32) (k0_t3 : Fin (k0_t3_loop v1).trips) : BitVec 32 :=
  let c0_i32_342 : BitVec 32 := 0#32
  let c511_i32 : BitVec 32 := 511#32
  let v379 : BitVec 32 := Scalar.addi v1 c511_i32
  let c512_i32 : BitVec 32 := 512#32
  let v380 : BitVec 32 := Scalar.divsi v379 c512_i32
  let v445 : BitVec 32 := Scalar.subi v380 c0_i32_342
  let c1_i32_343 : BitVec 32 := 1#32
  let v447 : BitVec 32 := Scalar.divsi v445 c1_i32_343
  let v448 : BitVec 32 := Scalar.muli v447 c1_i32_343
  let v449 : BitVec 32 := Scalar.addi c0_i32_342 v448
  let c1_i32_345 : BitVec 32 := 1#32
  let arg17 : BitVec 32 := Scf.iv v449 c1_i32_345 k0_t3
  let c512_i32_347 : BitVec 32 := 512#32
  let v459 : BitVec 32 := Scalar.muli arg17 c512_i32_347
  v459
def k0_off6 (v1 : BitVec 32) (k0_t3 : Fin (k0_t3_loop v1).trips) : Fin 2 → Nat :=
  let c0_i32_342 : BitVec 32 := 0#32
  let c511_i32 : BitVec 32 := 511#32
  let v379 : BitVec 32 := Scalar.addi v1 c511_i32
  let c512_i32 : BitVec 32 := 512#32
  let v380 : BitVec 32 := Scalar.divsi v379 c512_i32
  let v445 : BitVec 32 := Scalar.subi v380 c0_i32_342
  let c1_i32_343 : BitVec 32 := 1#32
  let v447 : BitVec 32 := Scalar.divsi v445 c1_i32_343
  let v448 : BitVec 32 := Scalar.muli v447 c1_i32_343
  let v449 : BitVec 32 := Scalar.addi c0_i32_342 v448
  let c1_i32_345 : BitVec 32 := 1#32
  let arg17 : BitVec 32 := Scf.iv v449 c1_i32_345 k0_t3
  let c512_i32_347 : BitVec 32 := 512#32
  let v459 : BitVec 32 := Scalar.muli arg17 c512_i32_347
  let v460 : BitVec 32 := v459
  let v461 : Index := Scalar.indexCast v460
  let c0_348 : Index := 0#32
  ![v461.toNat, 0]
def k0_off7 (v1 : BitVec 32) (k0_t3 : Fin (k0_t3_loop v1).trips) : Fin 4 → Nat :=
  let c0_355 : Index := 0#32
  let c0_356 : Index := 0#32
  let c0_357 : Index := 0#32
  let c0_i32_342 : BitVec 32 := 0#32
  let c511_i32 : BitVec 32 := 511#32
  let v379 : BitVec 32 := Scalar.addi v1 c511_i32
  let c512_i32 : BitVec 32 := 512#32
  let v380 : BitVec 32 := Scalar.divsi v379 c512_i32
  let v445 : BitVec 32 := Scalar.subi v380 c0_i32_342
  let c1_i32_343 : BitVec 32 := 1#32
  let v447 : BitVec 32 := Scalar.divsi v445 c1_i32_343
  let v448 : BitVec 32 := Scalar.muli v447 c1_i32_343
  let v449 : BitVec 32 := Scalar.addi c0_i32_342 v448
  let c1_i32_345 : BitVec 32 := 1#32
  let arg17 : BitVec 32 := Scf.iv v449 c1_i32_345 k0_t3
  let c512_i32_347 : BitVec 32 := 512#32
  let v459 : BitVec 32 := Scalar.muli arg17 c512_i32_347
  let v460 : BitVec 32 := v459
  let v486 : Index := Scalar.indexCast v460
  ![0, 0, 0, v486.toNat]

def k0_chk1 (v1 : BitVec 32) : Prop :=
  ((k0_t2_loop v1).OK) ∧
  (∀ k0_t2 : Fin (k0_t2_loop v1).trips, 512 ∣ (k0_mult2 v1 k0_t2).toNat) ∧
  (∀ k0_t2 : Fin (k0_t2_loop v1).trips, ∀ a, (k0_off4 v1 k0_t2) a + S512x128.size a ≤ S2048x128.size a) ∧
  (∀ k0_t2 : Fin (k0_t2_loop v1).trips, ∀ a, (k0_off5 v1 k0_t2) a + S1x1x1x512.size a ≤ S1x1x1x2048.size a) ∧
  ((k0_t3_loop v1).OK) ∧
  (∀ k0_t3 : Fin (k0_t3_loop v1).trips, 512 ∣ (k0_mult3 v1 k0_t3).toNat) ∧
  (∀ k0_t3 : Fin (k0_t3_loop v1).trips, ∀ a, (k0_off6 v1 k0_t3) a + S512x128.size a ≤ S2048x128.size a) ∧
  (∀ k0_t3 : Fin (k0_t3_loop v1).trips, ∀ a, (k0_off7 v1 k0_t3) a + S1x1x1x512.size a ≤ S1x1x1x2048.size a)
theorem k0_t2_ok : ∀ (v1 : BitVec 32) (k0_hw1 : k0_chk1 v1), (k0_t2_loop v1).OK := fun v1 k0_hw1 => k0_hw1.1
theorem k0_mult2_dvd : ∀ (v1 : BitVec 32) (k0_hw1 : k0_chk1 v1) (k0_t2 : Fin (k0_t2_loop v1).trips), 512 ∣ (k0_mult2 v1 k0_t2).toNat := fun v1 k0_hw1 k0_t2 => k0_hw1.2.1 k0_t2
theorem k0_off4_inb : ∀ (v1 : BitVec 32) (k0_hw1 : k0_chk1 v1) (k0_t2 : Fin (k0_t2_loop v1).trips), ∀ a, (k0_off4 v1 k0_t2) a + S512x128.size a ≤ S2048x128.size a := fun v1 k0_hw1 k0_t2 => k0_hw1.2.2.1 k0_t2
theorem k0_off5_inb : ∀ (v1 : BitVec 32) (k0_hw1 : k0_chk1 v1) (k0_t2 : Fin (k0_t2_loop v1).trips), ∀ a, (k0_off5 v1 k0_t2) a + S1x1x1x512.size a ≤ S1x1x1x2048.size a := fun v1 k0_hw1 k0_t2 => k0_hw1.2.2.2.1 k0_t2
theorem k0_t3_ok : ∀ (v1 : BitVec 32) (k0_hw1 : k0_chk1 v1), (k0_t3_loop v1).OK := fun v1 k0_hw1 => k0_hw1.2.2.2.2.1
theorem k0_mult3_dvd : ∀ (v1 : BitVec 32) (k0_hw1 : k0_chk1 v1) (k0_t3 : Fin (k0_t3_loop v1).trips), 512 ∣ (k0_mult3 v1 k0_t3).toNat := fun v1 k0_hw1 k0_t3 => k0_hw1.2.2.2.2.2.1 k0_t3
theorem k0_off6_inb : ∀ (v1 : BitVec 32) (k0_hw1 : k0_chk1 v1) (k0_t3 : Fin (k0_t3_loop v1).trips), ∀ a, (k0_off6 v1 k0_t3) a + S512x128.size a ≤ S2048x128.size a := fun v1 k0_hw1 k0_t3 => k0_hw1.2.2.2.2.2.2.1 k0_t3
theorem k0_off7_inb : ∀ (v1 : BitVec 32) (k0_hw1 : k0_chk1 v1) (k0_t3 : Fin (k0_t3_loop v1).trips), ∀ a, (k0_off7 v1 k0_t3) a + S1x1x1x512.size a ≤ S1x1x1x2048.size a := fun v1 k0_hw1 k0_t3 => k0_hw1.2.2.2.2.2.2.2 k0_t3

def k0_off8 (k0_t1 : Fin k0_t1_loop.trips) : Fin 2 → Nat :=
  let c0_i32_323 : BitVec 32 := 0#32
  let c0_i32 : BitVec 32 := 0#32
  let c1_i32 : BitVec 32 := 1#32
  let arg16 : BitVec 32 := Scf.iv c0_i32 c1_i32 k0_t1
  let c1_i32_322 : BitVec 32 := 1#32
  let v414 : BitVec 32 := Scalar.muli arg16 c1_i32_322
  let v415 : BitVec 32 := Scalar.addi c0_i32_323 v414
  let c256_i32 : BitVec 32 := 256#32
  let v416 : BitVec 32 := Scalar.muli v415 c256_i32
  let v417 : BitVec 32 := v416
  let v455 : Index := Scalar.indexCast v417
  let c0_346 : Index := 0#32
  ![v455.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x211x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x224x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x224x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x2048x128 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x16x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x2048x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1792x224 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x211x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S12x211x8192 : Shape := ⟨3, ![12, 211, 8192]⟩
abbrev S12x211x8x128 : Shape := ⟨4, ![12, 211, 8, 128]⟩
abbrev S12x2048x8x128 : Shape := ⟨4, ![12, 2048, 8, 128]⟩
abbrev S12x16x8x128 : Shape := ⟨4, ![12, 16, 8, 128]⟩
abbrev S12x2048x8 : Shape := ⟨3, ![12, 2048, 8]⟩
abbrev S12 : Shape := ⟨1, ![12]⟩
abbrev S12x211x8x8x128 : Shape := ⟨5, ![12, 211, 8, 8, 128]⟩
abbrev S12x16x128x8x128 : Shape := ⟨5, ![12, 16, 128, 8, 128]⟩
abbrev S12x16x1x8x128 : Shape := ⟨5, ![12, 16, 1, 8, 128]⟩
abbrev S12x8x2048x211x8 : Shape := ⟨5, ![12, 8, 2048, 211, 8]⟩
abbrev S12x8x8x211x2048 : Shape := ⟨5, ![12, 8, 8, 211, 2048]⟩
abbrev S_ : Shape := ⟨0, ![]⟩
abbrev S2048 : Shape := ⟨1, ![2048]⟩
abbrev S1x2048 : Shape := ⟨2, ![1, 2048]⟩
abbrev S12x1 : Shape := ⟨2, ![12, 1]⟩
abbrev S12x2048 : Shape := ⟨2, ![12, 2048]⟩
abbrev S12x1x1x1x2048 : Shape := ⟨5, ![12, 1, 1, 1, 2048]⟩
abbrev S12x8x211x211x8 : Shape := ⟨5, ![12, 8, 211, 211, 8]⟩
abbrev S12x8x8x211x211 : Shape := ⟨5, ![12, 8, 8, 211, 211]⟩
abbrev S211 : Shape := ⟨1, ![211]⟩
abbrev S211x1 : Shape := ⟨2, ![211, 1]⟩
abbrev S1x211 : Shape := ⟨2, ![1, 211]⟩
abbrev S211x211 : Shape := ⟨2, ![211, 211]⟩
abbrev S1x1x1x211x211 : Shape := ⟨5, ![1, 1, 1, 211, 211]⟩
abbrev S12x8x8x211 : Shape := ⟨4, ![12, 8, 8, 211]⟩
abbrev S12x8x8x211x1 : Shape := ⟨5, ![12, 8, 8, 211, 1]⟩
abbrev S12x8x2048 : Shape := ⟨3, ![12, 8, 2048]⟩
abbrev S12x8x1x1x2048 : Shape := ⟨5, ![12, 8, 1, 1, 2048]⟩
abbrev S12x8x128x8x211 : Shape := ⟨5, ![12, 8, 128, 8, 211]⟩

abbrev nBuf : Space → Nat
  | .hbm => 175
  | .vmem => 0
  | .smem => 0
  | _ => 0

abbrev hbmTy0_0 (i : Nat) : BufTy := match i % 128 with
  | 0 => ⟨S12x211x8192, .bf16⟩
  | 1 => ⟨S12x211x8x128, .bf16⟩
  | 2 => ⟨S12x211x8x128, .bf16⟩
  | 3 => ⟨S12x2048x8x128, .i8⟩
  | 4 => ⟨S12x16x8x128, .f32⟩
  | 5 => ⟨S12x2048x8x128, .i8⟩
  | 6 => ⟨S12x2048x8, .f32⟩
  | 7 => ⟨S12, .i32⟩
  | 8 => ⟨S12x211x8x8x128, .bf16⟩
  | 9 => ⟨S12x2048x8x128, .i32⟩
  | 10 => ⟨S12x2048x8x128, .f32⟩
  | 11 => ⟨S12x2048x8x128, .bf16⟩
  | 12 => ⟨S12x2048x8x128, .i32⟩
  | 13 => ⟨S12x2048x8x128, .f32⟩
  | 14 => ⟨S12x2048x8x128, .bf16⟩
  | 15 => ⟨S12x16x128x8x128, .bf16⟩
  | 16 => ⟨S12x16x8x128, .bf16⟩
  | 17 => ⟨S12x16x1x8x128, .bf16⟩
  | 18 => ⟨S12x16x128x8x128, .bf16⟩
  | 19 => ⟨S12x16x128x8x128, .bf16⟩
  | 20 => ⟨S12x2048x8x128, .bf16⟩
  | 21 => ⟨S12x8x2048x211x8, .f32⟩
  | 22 => ⟨S12x8x8x211x2048, .f32⟩
  | 23 => ⟨S_, .f32⟩
  | 24 => ⟨S12x8x8x211x2048, .f32⟩
  | 25 => ⟨S12x8x8x211x2048, .f32⟩
  | 26 => ⟨S2048, .i32⟩
  | 27 => ⟨S1x2048, .i32⟩
  | 28 => ⟨S12x1, .i32⟩
  | 29 => ⟨S12x2048, .i32⟩
  | 30 => ⟨S12x2048, .i32⟩
  | 31 => ⟨S12x2048, .i1⟩
  | 32 => ⟨S12x1x1x1x2048, .i1⟩
  | 33 => ⟨S_, .f32⟩
  | 34 => ⟨S_, .f32⟩
  | 35 => ⟨S12x8x8x211x2048, .i1⟩
  | 36 => ⟨S12x8x8x211x2048, .f32⟩
  | 37 => ⟨S12x8x8x211x2048, .f32⟩
  | 38 => ⟨S12x8x211x211x8, .f32⟩
  | 39 => ⟨S12x8x8x211x211, .f32⟩
  | 40 => ⟨S_, .f32⟩
  | 41 => ⟨S12x8x8x211x211, .f32⟩
  | 42 => ⟨S12x8x8x211x211, .f32⟩
  | 43 => ⟨S211, .i32⟩
  | 44 => ⟨S_, .i32⟩
  | 45 => ⟨S211, .i32⟩
  | 46 => ⟨S211, .i1⟩
  | 47 => ⟨S_, .i32⟩
  | 48 => ⟨S211, .i32⟩
  | 49 => ⟨S211, .i1⟩
  | 50 => ⟨S211, .i1⟩
  | 51 => ⟨S_, .i32⟩
  | 52 => ⟨S211, .i32⟩
  | 53 => ⟨S211, .i32⟩
  | 54 => ⟨S_, .i32⟩
  | 55 => ⟨S211, .i32⟩
  | 56 => ⟨S211, .i32⟩
  | 57 => ⟨S_, .i32⟩
  | 58 => ⟨S211, .i32⟩
  | 59 => ⟨S211, .i32⟩
  | 60 => ⟨S_, .i32⟩
  | 61 => ⟨S211, .i32⟩
  | 62 => ⟨S211, .i1⟩
  | 63 => ⟨S_, .i32⟩
  | 64 => ⟨S211, .i32⟩
  | 65 => ⟨S211, .i32⟩
  | 66 => ⟨S_, .i32⟩
  | 67 => ⟨S211, .i32⟩
  | 68 => ⟨S211, .i32⟩
  | 69 => ⟨S_, .i32⟩
  | 70 => ⟨S211, .i32⟩
  | 71 => ⟨S211, .i32⟩
  | 72 => ⟨S_, .i32⟩
  | 73 => ⟨S211, .i32⟩
  | 74 => ⟨S211, .i32⟩
  | 75 => ⟨S211x1, .i32⟩
  | 76 => ⟨S211x1, .i32⟩
  | 77 => ⟨S1x211, .i32⟩
  | 78 => ⟨S1x211, .i32⟩
  | 79 => ⟨S1x211, .i32⟩
  | 80 => ⟨S_, .i32⟩
  | 81 => ⟨S1x211, .i32⟩
  | 82 => ⟨S1x211, .i1⟩
  | 83 => ⟨S_, .i1⟩
  | 84 => ⟨S211x1, .i1⟩
  | 85 => ⟨S211x211, .i1⟩
  | 86 => ⟨S211x211, .i1⟩
  | 87 => ⟨S211x211, .i1⟩
  | 88 => ⟨S211x1, .i1⟩
  | 89 => ⟨S1x211, .i1⟩
  | 90 => ⟨S211x211, .i1⟩
  | 91 => ⟨S211x211, .i1⟩
  | 92 => ⟨S211x211, .i1⟩
  | 93 => ⟨S_, .i32⟩
  | 94 => ⟨S1x211, .i32⟩
  | 95 => ⟨S1x211, .i1⟩
  | 96 => ⟨S211x211, .i32⟩
  | 97 => ⟨S211x211, .i32⟩
  | 98 => ⟨S211x211, .i1⟩
  | 99 => ⟨S211x211, .i1⟩
  | 100 => ⟨S211x211, .i1⟩
  | 101 => ⟨S_, .i32⟩
  | 102 => ⟨S1x211, .i32⟩
  | 103 => ⟨S1x211, .i1⟩
  | 104 => ⟨S211x211, .i32⟩
  | 105 => ⟨S211x211, .i32⟩
  | 106 => ⟨S211x211, .i1⟩
  | 107 => ⟨S211x211, .i1⟩
  | 108 => ⟨S211x211, .i1⟩
  | 109 => ⟨S211x211, .i32⟩
  | 110 => ⟨S211x211, .i32⟩
  | 111 => ⟨S211x211, .i1⟩
  | 112 => ⟨S211x211, .i1⟩
  | 113 => ⟨S211x211, .i1⟩
  | 114 => ⟨S211x211, .i1⟩
  | 115 => ⟨S211x1, .i1⟩
  | 116 => ⟨S1x211, .i1⟩
  | 117 => ⟨S211x211, .i1⟩
  | 118 => ⟨S211x211, .i1⟩
  | 119 => ⟨S211x211, .i1⟩
  | 120 => ⟨S1x211, .i32⟩
  | 121 => ⟨S211x1, .i32⟩
  | 122 => ⟨S211x211, .i32⟩
  | 123 => ⟨S211x211, .i32⟩
  | 124 => ⟨S211x211, .i1⟩
  | 125 => ⟨S211x211, .i1⟩
  | 126 => ⟨S1x211, .i32⟩
  | 127 => ⟨S211x1, .i32⟩
  | _ => ⟨S12x211x8192, .bf16⟩

abbrev hbmTy0_1 (i : Nat) : BufTy := match i % 128 with
  | 0 => ⟨S211x211, .i32⟩
  | 1 => ⟨S211x211, .i32⟩
  | 2 => ⟨S211x211, .i1⟩
  | 3 => ⟨S211x211, .i1⟩
  | 4 => ⟨S211x211, .i1⟩
  | 5 => ⟨S211x211, .i1⟩
  | 6 => ⟨S1x1x1x211x211, .i1⟩
  | 7 => ⟨S_, .f32⟩
  | 8 => ⟨S_, .f32⟩
  | 9 => ⟨S12x8x8x211x211, .i1⟩
  | 10 => ⟨S12x8x8x211x211, .f32⟩
  | 11 => ⟨S12x8x8x211x211, .f32⟩
  | 12 => ⟨S_, .f32⟩
  | 13 => ⟨S12x8x8x211, .f32⟩
  | 14 => ⟨S_, .f32⟩
  | 15 => ⟨S12x8x8x211, .f32⟩
  | 16 => ⟨S12x8x8x211, .f32⟩
  | 17 => ⟨S12x8x8x211x1, .f32⟩
  | 18 => ⟨S12x8x8x211x2048, .f32⟩
  | 19 => ⟨S12x8x8x211x2048, .f32⟩
  | 20 => ⟨S12x8x8x211x2048, .f32⟩
  | 21 => ⟨S12x8x8x211x211, .f32⟩
  | 22 => ⟨S12x8x8x211x211, .f32⟩
  | 23 => ⟨S12x8x8x211x211, .f32⟩
  | 24 => ⟨S_, .f32⟩
  | 25 => ⟨S12x8x8x211, .f32⟩
  | 26 => ⟨S_, .f32⟩
  | 27 => ⟨S12x8x8x211, .f32⟩
  | 28 => ⟨S12x8x8x211, .f32⟩
  | 29 => ⟨S12x8x8x211x1, .f32⟩
  | 30 => ⟨S12x8x8x211x2048, .f32⟩
  | 31 => ⟨S12x8x8x211x2048, .f32⟩
  | 32 => ⟨S12x8x8x211x211, .f32⟩
  | 33 => ⟨S12x8x8x211x211, .f32⟩
  | 34 => ⟨S12x8x2048, .f32⟩
  | 35 => ⟨S12x8x1x1x2048, .f32⟩
  | 36 => ⟨S12x8x8x211x2048, .f32⟩
  | 37 => ⟨S12x8x8x211x2048, .f32⟩
  | 38 => ⟨S12x8x8x211x2048, .bf16⟩
  | 39 => ⟨S12x8x128x8x211, .f32⟩
  | 40 => ⟨S12x211x8x8x128, .f32⟩
  | 41 => ⟨S12x8x8x211x211, .bf16⟩
  | 42 => ⟨S12x8x128x8x211, .f32⟩
  | 43 => ⟨S12x211x8x8x128, .f32⟩
  | 44 => ⟨S12x211x8x8x128, .f32⟩
  | 45 => ⟨S12x211x8192, .f32⟩
  | 46 => ⟨S12x211x8192, .bf16⟩
  | _ => ⟨S12x211x8192, .bf16⟩

abbrev hbmTy (i : Nat) : BufTy := match i / 128 with
  | 0 => hbmTy0_0 i
  | 1 => hbmTy0_1 i
  | _ => ⟨S12x211x8192, .bf16⟩

abbrev bufTy : (tb : Table) → Fin (tcTables nBuf tb) → BufTy
  | .hbm, ⟨i, _⟩ => hbmTy i
  | _, _ => ⟨S12x211x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_0 : Ref sig .tc := ⟨.hbm, 33, rfl⟩
abbrev main_call0_v0 : Ref sig .tc := ⟨.hbm, 34, rfl⟩
abbrev main_call0_v1 : Ref sig .tc := ⟨.hbm, 35, rfl⟩
abbrev main_call0_v2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_1 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c : Ref sig .tc := ⟨.hbm, 44, rfl⟩
abbrev main_v30 : Ref sig .tc := ⟨.hbm, 45, rfl⟩
abbrev main_v31 : Ref sig .tc := ⟨.hbm, 46, rfl⟩
abbrev main_c_2 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_3 : Ref sig .tc := ⟨.hbm, 51, rfl⟩
abbrev main_v35 : Ref sig .tc := ⟨.hbm, 52, rfl⟩
abbrev main_v36 : Ref sig .tc := ⟨.hbm, 53, rfl⟩
abbrev main_c_4 : Ref sig .tc := ⟨.hbm, 54, rfl⟩
abbrev main_v37 : Ref sig .tc := ⟨.hbm, 55, rfl⟩
abbrev main_v38 : Ref sig .tc := ⟨.hbm, 56, rfl⟩
abbrev main_c_5 : Ref sig .tc := ⟨.hbm, 57, rfl⟩
abbrev main_v39 : Ref sig .tc := ⟨.hbm, 58, rfl⟩
abbrev main_v40 : Ref sig .tc := ⟨.hbm, 59, rfl⟩
abbrev main_c_6 : Ref sig .tc := ⟨.hbm, 60, rfl⟩
abbrev main_v41 : Ref sig .tc := ⟨.hbm, 61, rfl⟩
abbrev main_v42 : Ref sig .tc := ⟨.hbm, 62, rfl⟩
abbrev main_c_7 : Ref sig .tc := ⟨.hbm, 63, rfl⟩
abbrev main_v43 : Ref sig .tc := ⟨.hbm, 64, rfl⟩
abbrev main_v44 : Ref sig .tc := ⟨.hbm, 65, rfl⟩
abbrev main_c_8 : Ref sig .tc := ⟨.hbm, 66, rfl⟩
abbrev main_v45 : Ref sig .tc := ⟨.hbm, 67, rfl⟩
abbrev main_v46 : Ref sig .tc := ⟨.hbm, 68, rfl⟩
abbrev main_c_9 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_c_11 : Ref sig .tc := ⟨.hbm, 80, rfl⟩
abbrev main_v56 : Ref sig .tc := ⟨.hbm, 81, rfl⟩
abbrev main_v57 : Ref sig .tc := ⟨.hbm, 82, rfl⟩
abbrev main_c_12 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_c_14 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_cst_15 : Ref sig .tc := ⟨.hbm, 135, rfl⟩
abbrev main_call1_v0 : Ref sig .tc := ⟨.hbm, 136, rfl⟩
abbrev main_call1_v1 : Ref sig .tc := ⟨.hbm, 137, rfl⟩
abbrev main_call1_v2 : Ref sig .tc := ⟨.hbm, 138, rfl⟩
abbrev main_v107 : Ref sig .tc := ⟨.hbm, 139, rfl⟩
abbrev main_cst_16 : Ref sig .tc := ⟨.hbm, 140, rfl⟩
abbrev main_v108 : Ref sig .tc := ⟨.hbm, 141, rfl⟩
abbrev main_cst_17 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_cst_18 : Ref sig .tc := ⟨.hbm, 152, rfl⟩
abbrev main_v118 : Ref sig .tc := ⟨.hbm, 153, rfl⟩
abbrev main_cst_19 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩

abbrev nD : Nat := 1
abbrev τ : Topo := Topo.v7x

variable {F : FTy → Type} [FloatOps F]

def κ : String → Option EReal := fun
  | "mask" => some ⊥
  | _ => none
-- ==== Proof.KernelPoints.lean ====
/- The schedule of the attention call of `Kernel` on its static grid: at which points each window is fetched or written
   back, the current staging memref of each window at a point, and the kernel body as the pipeline calls it there. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%92)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 5 (%93)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 6 (%94)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 6 (operand 7 (%96)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 1 (fun _ => rfl) (by decide)) (P := 1) (by decide) t).mpr (Nat.mod_one _) : ∀ t : Fin grid0.N, Pipeline.Window.fetchOf grid0 false cc0_transform_6 t = true)
/-- Window 7 (operand 8 (%91)) is fetched at the first point only, at any contents of the tables (its index map reads none). -/
theorem fetch0_7 (a : (pcfg0 (F := F)).Adm) : ∀ t : Fin (cfg0 a).N, ((cfg0 a).win 7).fetch t = true ↔ t.val % 96 = 0 :=
  (fun t => Pipeline.Window.fetchOf_const cc0_transform_7 (fun _ _ => rfl) (n := 96) (by decide) t : ∀ t : Fin grid0.N, Pipeline.Window.fetchOf grid0 false cc0_transform_7 t = true ↔ t.val % 96 = 0)
/-- Window 8 (result 0 (%97)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_lookahead_attention (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.Kernel.Gen

end
-- ==== Proof.KernelKit.lean ====
/- What the region of `Kernel` starts from and how its frame is read off its run: @main up to the call (`Gen.hmain`), the
   arrays' contents there (`Gen.V`, and `Gen.V_<arg>`: each argument array as launched), each window's block at a
   point (`Gen.iblk`), and `Gen.frame_of`: the arguments end unchanged, from any run to the pipeline's post. -/
module

public import proofs.«01_k».proof.Proof.Gen.Kernel.Launch
public import proofs.«01_k».proof.Proof.KernelPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_Kernel`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

end Cert.Kernel.Gen

end
-- ==== Proof.KernelLoop.lean ====
/- The kernel's loop over the seven row tiles (`k0_t1`): what one trip stores into the output scratch, the pieces the
   trips before `k` have stored, and the loop invariant saying that the scratch holds those pieces. -/
module

public import proofs.«01_k».proof.Proof.Gen.Kernel.Loops

@[expose] public section

set_option maxRecDepth 8192
set_option maxHeartbeats 4000000

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
/-! ### `k0_t1_loop`: its invariant -/

/-- One trip's resources: what the region reads (arg4, arg5, arg9, arg10, arg12, arg13, arg14) at
   its contents, what it writes (arg15) at any. -/
abbrev Trip_k0_t1 (c : Dev nD) (arg4 : Memref sig .tc .vmem S1x1x224x128 .bf16) (arg5 : Memref sig .tc .vmem S1x1x224x128 .bf16) (arg9 : Memref sig .tc .vmem S1x1x1x2048 .f32) (arg10 : Memref sig .tc .vmem S1792x224 .f32) (arg12 : Memref sig .tc .vmem S1792x128 .bf16) (arg13 : Memref sig .tc .vmem S2048x128 .bf16) (arg14 : Memref sig .tc .vmem S2048x128 .bf16) (arg15 : Memref sig .tc .vmem S1792x128 .bf16) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (f_arg15 : BufTy.Contents (Elt F) arg15.view.ty) : sProp 𝕄G :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} f_arg15))

/-- ONE TRIP of `k0_t1_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    { L_arg15 : List (View.Piece (Elt F) S1792x128 .bf16) // ∀ (E : Set ℕ) (f_arg15 : BufTy.Contents (Elt F) arg15.view.ty),
      Trip_k0_t1 (F := F) c arg4 arg5 arg9 arg10 arg12 arg13 arg14 arg15 X_arg4 X_arg5 X_arg9 X_arg10 X_arg12 X_arg13 X_arg14 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 k PUnit.unit)
          (fun _ => Trip_k0_t1 (F := F) c arg4 arg5 arg9 arg10 arg12 arg13 arg14 arg15 X_arg4 X_arg5 X_arg9 X_arg10 X_arg12 X_arg13 X_arg14 (arg15.view.writes (Elt F) f_arg15 L_arg15)) } := by
  have hk : k.val < 7 := Nat.lt_of_lt_of_le k.isLt k0_t1_abs.2.1
  refine ⟨?_, fun E f_arg15 => ?run⟩
  case run =>
    unfold k0_t1_body
    iintro ⟨HR_arg4, HR_arg5, HR_arg9, HR_arg10, HR_arg12, HR_arg13, HR_arg14, HW_arg15⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) : List (View.Piece (Elt F) S1792x128 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : ℕ) (prev : List (View.Piece (Elt F) S1792x128 .bf16)) : List (View.Piece (Elt F) S1792x128 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 ⟨k, h⟩) ++ prev
  else prev

/-- The pieces of the trips before `k` (last first), per written memref. -/
def pb_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) : ℕ → List (View.Piece (Elt F) S1792x128 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k)

theorem pb_k0_t1_succ (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k.val) := by
  rw [pb_k0_t1.eq_2]; unfold pb_k0_t1Step; exact dif_pos k.isLt

/-- THE INVARIANT before trip `k`: arg4, arg5, arg9, arg10, arg12, arg13, arg14 read at `X_·`; arg15
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k)⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 G_arg15
  step k acc := by
    iintro ⟨HR_arg4, HR_arg5, HR_arg9, HR_arg10, HR_arg12, HR_arg13, HR_arg14, ⟨%f_arg15, HW_arg15, %h_arg15⟩⟩
    iapply (wp_wand_r Idealize.ShloMosaic.frame (wpE (defs₀ (F := F)) 𝒱 (c : Thread nD τ) bd) E)
    isplitl [HR_arg4 HR_arg5 HR_arg9 HR_arg10 HR_arg12 HR_arg13 HR_arg14 HW_arg15]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k).2 E f_arg15)
      isplitl [HR_arg4]; · iexact HR_arg4
      isplitl [HR_arg5]; · iexact HR_arg5
      isplitl [HR_arg9]; · iexact HR_arg9
      isplitl [HR_arg10]; · iexact HR_arg10
      isplitl [HR_arg12]; · iexact HR_arg12
      isplitl [HR_arg13]; · iexact HR_arg13
      isplitl [HR_arg14]; · iexact HR_arg14
      iexact HW_arg15
    · iintro %_ ⟨HR_arg4, HR_arg5, HR_arg9, HR_arg10, HR_arg12, HR_arg13, HR_arg14, HW_arg15⟩
      isplitl [HR_arg4]; · iexact HR_arg4
      isplitl [HR_arg5]; · iexact HR_arg5
      isplitl [HR_arg9]; · iexact HR_arg9
      isplitl [HR_arg10]; · iexact HR_arg10
      isplitl [HR_arg12]; · iexact HR_arg12
      isplitl [HR_arg13]; · iexact HR_arg13
      isplitl [HR_arg14]; · iexact HR_arg14
      rw [pb_k0_t1_succ]
      iexists _; isplitl [HW_arg15]; · iexact HW_arg15
      ipureintro; rw [h_arg15, ← View.writes_append]

end Cert.Kernel.Gen

end
-- ==== Proof.KernelRun.lean ====
/- The kernel body run once, on any staging memrefs holding the inputs' blocks: it ends with the inputs as they were
   and with the output's buffer holding the pieces its stores wrote, which the run itself finds (`Gen.kernelRun0_A`). -/
module

public import proofs.«01_k».proof.Proof.KernelKit
public import proofs.«01_k».proof.Proof.KernelLoop

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S1x211x1024 .bf16 := (Memref.whole cc0_stg8_0 : Memref sig .tc .vmem S1x211x1024 .bf16).view
/-- Each window's current staging memref at point `t`, spelled as the pipeline passes it (`bodyAt0`), and its wholeness. -/
abbrev ms0_0 (hO : Ok m) (t : Fin (cfgM m hO).N) : Memref sig .tc .vmem S1x211x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x224x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x224x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048x128 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x16x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2048x128 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1792x224 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x211x1024 .bf16 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1792x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S1792x128 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: the definition's epilogue — `abstractNestedProofs` — walks it past the default budget)
set_option maxHeartbeats 1064000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) :
    { L8 : List (View.Piece (Elt F) S1x211x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_lookahead_attention i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_lookahead_attention_eq_skeleton]; unfold cc0_lookahead_attention_skel
    simp only [k0_part15_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    have hrd0 : ∀ (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (hrdF : BufTy.Contents (Elt F) arg15.view.ty) (hrdB : LoadRect S1792x128), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st)) S256x128.size (by sl_kernel_rfl) (hrdB.idx hrdJ))
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.Kernel.Gen

end
-- ==== Proof.KernelFrame.lean ====
/- The kernel's frame: what the output's staging buffer holds after each grid point (`Gen.outsAt0`), the pipeline's
   proof data (`Gen.dats`), the body obligation, the run of @main to the pipeline's post (`Gen.run_main`) and the frame. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S1x211x128`, checked by the kernel's evaluation: Lib/Ring.lean `Piece.tiledL`, linear in the pieces, through a loop's `@[irreducible]` trip theorem too), so they cover it. -/
theorem cover0_A_8 (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) (y : S1x211x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1 S1x211x128.size (by sl_kernel_rfl) y

/-- What the run leaves in output 8's staging buffer: its pieces read back over junk. -/
def out0_A_8 (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) : Vec F S1x211x1024 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S1x211x1024 .bf16 :=
  out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8]
  rw [show (dats m hO hH 0 c).Φ t.castSucc = iprop(Pipeline.ΦA spec0 c ∗ Pipeline.ΦT pre0 (tbl m) c) from rfl, PhiT0_eq, PhiA0_eq]
  unfold outsAt0
  unfold out0_A_8
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, ⟨%e8, H8⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
set_option maxHeartbeats 2000000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO hH) (A_eq m hO hH) (run_main m ρ hO hH)

/-- The frame: the argument arrays end unchanged and every semaphore counter ends at zero, for every contents of the
    cache-length table under `Gen.Ok m` and `Gen.Hyps m hO` (the side conditions the body assumes of the words it reads). -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.Kernel.Gen

end
-- ==== Proof.KernelLengths.lean ====
/- The cache length's arithmetic: for a length of at most 2048 the loop over cache blocks makes
   `⌈length / 512⌉` trips (none for a length that is not positive), trip `k` reads the 512 rows from
   `512 k`, inside the cache, and the remainder loop makes none; so the side condition the body assumes
   of the length it reads holds. -/
module

public import proofs.«01_k».proof.Proof.Gen.Kernel.Skeleton
public import Idealize.ShloMosaic.Lib.WordArith.Masks
public import Idealize.ShloMosaic.Lib.ClampedCount

@[expose] public section

noncomputable section

namespace Cert.Kernel.Gen

open Idealize.ShloMosaic

/-- The upper bound of the block loop, as the kernel's operations compute it, is one division. -/
theorem nk_word (v : BitVec 32) : (k0_t2_loop v).ub = (v + 511#32).sdiv 512#32 := by
  have hc : ¬ IntOp.SDivCorner (v + 511#32) 512#32 := by
    unfold IntOp.SDivCorner; rintro (h | ⟨-, h⟩) <;> revert h <;> decide
  show Scalar.addi 0#32 (Scalar.muli (Scalar.divsi (Scalar.subi (Scalar.divsi (Scalar.addi v 511#32) 512#32) 0#32) 1#32) 1#32) = _
  simp only [Scalar.addi, Scalar.muli, Scalar.divsi, Scalar.subi, IntOp.addi, IntOp.muli, IntOp.subi, WordArith.divsi_one,
    BitVec.mul_one, BitVec.sub_zero, BitVec.zero_add]
  unfold IntOp.divsi; rw [if_neg hc]

/-- The bound read as an integer, for a length of at most 2048. -/
theorem nk_toInt (v : BitVec 32) (h : v.toInt ≤ 2048) : ((v + 511#32).sdiv 512#32).toInt = (v.toInt + 511).tdiv 512 := by
  rw [BitVec.toInt_sdiv_of_ne_or_ne _ _ (.inr (by decide))]
  have : (v + 511#32).toInt = v.toInt + 511 := by
    have := BitVec.le_toInt v; have h5 : (511#32 : BitVec 32).toInt = 511 := by decide
    rw [BitVec.toInt_add, h5, Int.bmod_def]; omega
  rw [this]; rfl

/-- The block loop's trips. -/
theorem trips_t2 (v : BitVec 32) (h : v.toInt ≤ 2048) : (k0_t2_loop v).trips = ((v.toInt + 511) / 512).toNat := by
  show ((((k0_t2_loop v).ub).toInt - (0#32 : BitVec 32).toInt + (1#32 : BitVec 32).toInt - 1) / (1#32 : BitVec 32).toInt).toNat = _
  rw [nk_word, nk_toInt v h, Int.tdiv_eq_ediv]
  have h0 : (0#32 : BitVec 32).toInt = 0 := by decide
  have h1 : (1#32 : BitVec 32).toInt = 1 := by decide
  rw [h0, h1, Int.ediv_one]
  split <;> simp [Int.sign] <;> omega

theorem trips_t2_le (v : BitVec 32) (h : v.toInt ≤ 2048) : (k0_t2_loop v).trips ≤ 4 := by
  rw [trips_t2 v h]; omega

/-- The remainder loop makes no trip. -/
theorem trips_t3 (v : BitVec 32) : (k0_t3_loop v).trips = 0 := by
  have hub : (k0_t3_loop v).ub = (k0_t3_loop v).lb := by
    show Scalar.addi 0#32 (Scalar.subi (Scalar.divsi (Scalar.addi v 511#32) 512#32) 0#32)
      = Scalar.addi 0#32 (Scalar.muli (Scalar.divsi (Scalar.subi (Scalar.divsi (Scalar.addi v 511#32) 512#32) 0#32) 1#32) 1#32)
    generalize Scalar.divsi (Scalar.addi v 511#32) 512#32 = w
    simp only [Scalar.addi, Scalar.muli, Scalar.divsi, Scalar.subi, IntOp.addi, IntOp.muli, IntOp.subi, WordArith.divsi_one, BitVec.mul_one]
  show Scf.trips (k0_t3_loop v).lb (k0_t3_loop v).ub 1#32 = 0
  rw [hub]; unfold Scf.trips
  have h1 : (1#32 : BitVec 32).toInt = 1 := by decide
  rw [h1]; omega

theorem no_t3 (v : BitVec 32) (k : Fin (k0_t3_loop v).trips) : False := by
  have := trips_t3 v; have := k.isLt; omega

/-- Trip `k`'s first row. -/
theorem row_word (k : ℕ) (hk : k < 4) : (Scalar.muli (Scf.iv 0#32 1#32 k) 512#32).toNat = 512 * k := by
  rw [Scalar.muli, IntOp.muli, BitVec.toNat_mul, WordArith.toNat_iv_zero_one k (by omega)]
  show k * 512 % 2 ^ 32 = _; omega

theorem off4_eq (v : BitVec 32) (k : Fin (k0_t2_loop v).trips) (hk : k.val < 4) : k0_off4 v k = ![512 * k.val, 0] := by
  show ![(Scalar.muli (Scf.iv 0#32 1#32 k.val) 512#32).toNat, 0] = _
  rw [row_word k.val hk]

theorem off5_eq (v : BitVec 32) (k : Fin (k0_t2_loop v).trips) (hk : k.val < 4) : k0_off5 v k = ![0, 0, 0, 512 * k.val] := by
  show ![(0#32 : BitVec 32).toNat, (0#32 : BitVec 32).toNat, (0#32 : BitVec 32).toNat, (Scalar.muli (Scf.iv 0#32 1#32 k.val) 512#32).toNat] = _
  rw [row_word k.val hk]; rfl

/-- The side condition the body assumes of the cache length it reads, for a length of at most 2048. -/
theorem chk_of_le (v : BitVec 32) (h : v.toInt ≤ 2048) : k0_chk1 v := by
  have h4 : ∀ k : Fin (k0_t2_loop v).trips, k.val < 4 := fun k => lt_of_lt_of_le k.isLt (trips_t2_le v h)
  have h1 : (1#32 : BitVec 32).toInt = 1 := by decide
  refine ⟨⟨by show 0 < (1#32 : BitVec 32).toInt; decide, ?_⟩, fun k => ?_, fun k => ?_, fun k => ?_, ⟨by show 0 < (1#32 : BitVec 32).toInt; decide, ?_⟩,
    fun k => (no_t3 v k).elim, fun k => (no_t3 v k).elim, fun k => (no_t3 v k).elim⟩
  · show (0#32 : BitVec 32).toInt + ((k0_t2_loop v).trips : Int) * (1#32 : BitVec 32).toInt < 2 ^ 31
    have h0 : (0#32 : BitVec 32).toInt = 0 := by decide
    have := trips_t2_le v h; rw [h0, h1]; omega
  · show 512 ∣ (Scalar.muli (Scf.iv 0#32 1#32 k.val) 512#32).toNat
    rw [row_word k.val (h4 k)]; exact ⟨_, rfl⟩
  · rw [off4_eq v k (h4 k)]; have := h4 k; intro a; fin_cases a <;> simp [S512x128, S2048x128] <;> omega
  · rw [off5_eq v k (h4 k)]; have := h4 k; intro a; fin_cases a <;> simp [S1x1x1x512, S1x1x1x2048] <;> omega
  · show (k0_t3_loop v).lb.toInt + ((k0_t3_loop v).trips : Int) * (1#32 : BitVec 32).toInt < 2 ^ 31
    rw [trips_t3, h1]; have := BitVec.toInt_lt (x := (k0_t3_loop v).lb); omega

end Cert.Kernel.Gen

end
-- ==== Proof.KernelHyps.lean ====
/- The frame of `Kernel` from the claims' preconditions: every cache length at most 2048 gives the side condition the body
   assumes at every grid point (`Gen.hyps_of_le`), hence the frame (`Gen.frame_of_le`). -/
module

public import proofs.«01_k».proof.Proof.KernelFrame
public import proofs.«01_k».proof.Proof.KernelLengths

@[expose] public section

noncomputable section

namespace Cert.Kernel.Gen

open Idealize.ShloMosaic Idealize.ShloMosaic.TcCoe Idealize.SL.Sem

variable {F : FTy → Type} [FloatOps F]

variable (m : (ℓ : Loc nD τ sig) → Buf (Elt F) ℓ) (ρ : Dev nD → PrngReg)

/-- No window's index map reads the table: the pipeline's side condition of it is `True`. -/
theorem ok_all : Ok m := trivial

/-- The table holds the launched cache lengths. -/
theorem tbl_eq : tbl m 0 = m (((0 : Dev nD).tc : Thread nD τ).loc main_arg7) := V_main_arg7 m 0

/-- Cache lengths of at most 2048 give the side condition the body assumes, at every point. -/
theorem hyps_of_le (h : ∀ i : S12.Idx, (m (((0 : Dev nD).tc : Thread nD τ).loc main_arg7) i : BitVec 32).toInt ≤ 2048) : Hyps m (ok_all m) := by
  intro c t
  refine chk_of_le _ ?_
  rw [tbl_eq]
  exact h _

/-- The frame, with every semaphore counter at zero, from cache lengths of at most 2048. -/
theorem frame_of_le (h : ∀ i : S12.Idx, (m (((0 : Dev nD).tc : Thread nD τ).loc main_arg7) i : BitVec 32).toInt ≤ 2048) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame m ρ (ok_all m) (hyps_of_le m h)

end Cert.Kernel.Gen

end
-- ==== Proof.KernelIdealPoints.lean ====
/- The schedule of the attention call of `KernelIdeal` on its static grid: at which points each window is fetched or written
   back, the current staging memref of each window at a point, and the kernel body as the pipeline calls it there. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
/-- Window 1 (operand 2 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 1 (by decide) (by decide) (Pipeline.Window.sep_of_coord cc0_transform_1 1 1 (fun _ => rfl) (by decide)) (P := 1) (by decide) t).mpr (Nat.mod_one _) : ∀ t : Fin grid0.N, Pipeline.Window.fetchOf grid0 false cc0_transform_1 t = true)
/-- Window 2 (operand 3 (%3)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 1 (by decide) (by decide) (Pipeline.Window.sep_of_coord cc0_transform_2 1 1 (fun _ => rfl) (by decide)) (P := 1) (by decide) t).mpr (Nat.mod_one _) : ∀ t : Fin grid0.N, Pipeline.Window.fetchOf grid0 false cc0_transform_2 t = true)
/-- Window 3 (operand 4 (%92)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 1 (by decide) (by decide) (Pipeline.Window.sep_of_coord cc0_transform_3 1 1 (fun _ => rfl) (by decide)) (P := 1) (by decide) t).mpr (Nat.mod_one _) : ∀ t : Fin grid0.N, Pipeline.Window.fetchOf grid0 false cc0_transform_3 t = true)
/-- Window 4 (operand 5 (%93)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 1 (by decide) (by decide) (Pipeline.Window.sep_of_coord cc0_transform_4 1 1 (fun _ => rfl) (by decide)) (P := 1) (by decide) t).mpr (Nat.mod_one _) : ∀ t : Fin grid0.N, Pipeline.Window.fetchOf grid0 false cc0_transform_4 t = true)
/-- Window 5 (operand 6 (%94)) is fetched at every point, at any contents of the tables (its index map reads none). -/
theorem fetch0_5 (a : (pcfg0 (F := F)).Adm) : ∀ t : Fin (cfg0 a).N, ((cfg0 a).win 5).fetch t = true :=
  (fun t => (Pipeline.Window.fetchOf_reads cc0_transform_5 reads0_5 hreads0_5 1 (by decide) (by decide) (Pipeline.Window.sep_of_coord cc0_transform_5 1 1 (fun _ => rfl) (by decide)) (P := 1) (by decide) t).mpr (Nat.mod_one _) : ∀ t : Fin grid0.N, Pipeline.Window.fetchOf grid0 false cc0_transform_5 t = true)
/-- Window 6 (operand 7 (%96)) is fetched at every point, at any contents of the tables (its index map reads none). -/
theorem fetch0_6 (a : (pcfg0 (F := F)).Adm) : ∀ t : Fin (cfg0 a).N, ((cfg0 a).win 6).fetch t = true :=
  (fun t => (Pipeline.Window.fetchOf_reads cc0_transform_6 reads0_6 hreads0_6 1 (by decide) (by decide) (Pipeline.Window.sep_of_coord cc0_transform_6 1 1 (fun _ => rfl) (by decide)) (P := 1) (by decide) t).mpr (Nat.mod_one _) : ∀ t : Fin grid0.N, Pipeline.Window.fetchOf grid0 false cc0_transform_6 t = true)
/-- Window 7 (operand 8 (%91)) is fetched at the first point only, at any contents of the tables (its index map reads none). -/
theorem fetch0_7 (a : (pcfg0 (F := F)).Adm) : ∀ t : Fin (cfg0 a).N, ((cfg0 a).win 7).fetch t = true ↔ t.val % 96 = 0 :=
  (fun t => Pipeline.Window.fetchOf_const cc0_transform_7 (fun _ _ => rfl) (n := 96) (by decide) t : ∀ t : Fin grid0.N, Pipeline.Window.fetchOf grid0 false cc0_transform_7 t = true ↔ t.val % 96 = 0)
/-- Window 8 (result 0 (%97)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 1 (by decide) (by decide) (Pipeline.Window.sep_of_coord cc0_transform_8 1 2 (fun _ => rfl) (by decide)) (P := 1) (m := 0) (by decide) rfl t).mpr (Nat.mod_one _) : ∀ t : Fin grid0.N, Pipeline.Window.flushOf grid0 true cc0_transform_8 t = true)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_lookahead_attention (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _)

end Cert.KernelIdeal.Gen

end
-- ==== Proof.KernelIdealKit.lean ====
/- What the region of `KernelIdeal` starts from and how its frame is read off its run: @main up to the call (`Gen.hmain`), the
   arrays' contents there (`Gen.V`, and `Gen.V_<arg>`: each argument array as launched), each window's block at a
   point (`Gen.iblk`), and `Gen.frame_of`: the arguments end unchanged, from any run to the pipeline's post. -/
module

public import proofs.«01_k».proof.Proof.Gen.KernelIdeal.Launch
public import proofs.«01_k».proof.Proof.KernelIdealPoints
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`, `hostOps0_13`, `hostOps0_14`, `hostOps0_15`, `hostOps0_16`, `hostOps0_17`, `hostOps0_18`, `hostOps0_19`, `hostOps0_20`, `hostOps0_21`, `hostOps0_22`, `hostOps0_23`, `hostOps0_24`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S12 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c)⟩) h

end Cert.KernelIdeal.Gen

end
-- ==== Proof.KernelIdealLoop.lean ====
/- The kernel's loop over the seven row tiles (`k0_t1`): what one trip stores into the output scratch, the pieces the
   trips before `k` have stored, and the loop invariant saying that the scratch holds those pieces. -/
module

public import proofs.«01_k».proof.Proof.Gen.KernelIdeal.Loops

@[expose] public section

set_option maxRecDepth 8192
set_option maxHeartbeats 4000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ
/-! ### `k0_t1_loop`: its invariant -/

/-- One trip's resources: what the region reads (arg4, arg5, arg9, arg10, arg12, arg13, arg14) at
   its contents, what it writes (arg15) at any. -/
abbrev Trip_k0_t1 (c : Dev nD) (arg4 : Memref sig .tc .vmem S1x1x224x128 .bf16) (arg5 : Memref sig .tc .vmem S1x1x224x128 .bf16) (arg9 : Memref sig .tc .vmem S1x1x1x2048 .f32) (arg10 : Memref sig .tc .vmem S1792x224 .f32) (arg12 : Memref sig .tc .vmem S1792x128 .bf16) (arg13 : Memref sig .tc .vmem S2048x128 .bf16) (arg14 : Memref sig .tc .vmem S2048x128 .bf16) (arg15 : Memref sig .tc .vmem S1792x128 .bf16) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (f_arg15 : BufTy.Contents (Elt F) arg15.view.ty) : sProp 𝕄G :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} f_arg15))

/-- ONE TRIP of `k0_t1_loop` at a symbolic `k`, run by `sl_exec` (its rectangles' offsets closed
   forms of `k`, their geometry linear arithmetic): the pieces it writes into arg15 are the run's
   own finds — the witnesses `sl_close` assigns handing the buffers to the continuation.
   `@[irreducible]`: cited, never unfolded. -/
@[irreducible] def trip_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    { L_arg15 : List (View.Piece (Elt F) S1792x128 .bf16) // ∀ (E : Set ℕ) (f_arg15 : BufTy.Contents (Elt F) arg15.view.ty),
      Trip_k0_t1 (F := F) c arg4 arg5 arg9 arg10 arg12 arg13 arg14 arg15 X_arg4 X_arg5 X_arg9 X_arg10 X_arg12 X_arg13 X_arg14 f_arg15
      ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 k PUnit.unit)
          (fun _ => Trip_k0_t1 (F := F) c arg4 arg5 arg9 arg10 arg12 arg13 arg14 arg15 X_arg4 X_arg5 X_arg9 X_arg10 X_arg12 X_arg13 X_arg14 (arg15.view.writes (Elt F) f_arg15 L_arg15)) } := by
  have hk : k.val < 7 := Nat.lt_of_lt_of_le k.isLt k0_t1_abs.2.1
  refine ⟨?_, fun E f_arg15 => ?run⟩
  case run =>
    unfold k0_t1_body
    iintro ⟨HR_arg4, HR_arg5, HR_arg9, HR_arg10, HR_arg12, HR_arg13, HR_arg14, HW_arg15⟩
    sl_exec
    sl_step
    sl_close

/-- The trip's piece lists (plain projections of `trip_…`, for the recursion below to cite without
   its proof). -/
abbrev tripL_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) : List (View.Piece (Elt F) S1792x128 .bf16) :=
  (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k).1

/-- Trip `k`'s contribution to the state the recursion `pb_k0_t1` below carries (`prev`): its pieces
   in front, per written memref; past the last trip, `prev` itself. -/
@[irreducible] def pb_k0_t1Step (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : ℕ) (prev : List (View.Piece (Elt F) S1792x128 .bf16)) : List (View.Piece (Elt F) S1792x128 .bf16) :=
  if h : k < k0_t1_loop.trips then
    (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 ⟨k, h⟩) ++ prev
  else prev

/-- The pieces of the trips before `k` (last first), per written memref. -/
def pb_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) : ℕ → List (View.Piece (Elt F) S1792x128 .bf16)
  | 0 => []
  | k + 1 => pb_k0_t1Step 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k (pb_k0_t1 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k)

theorem pb_k0_t1_succ (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (k : Fin k0_t1_loop.trips) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (k.val + 1)
      = (tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k) ++ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k.val) := by
  rw [pb_k0_t1.eq_2]; unfold pb_k0_t1Step; exact dif_pos k.isLt

/-- THE INVARIANT before trip `k`: arg4, arg5, arg9, arg10, arg12, arg13, arg14 read at `X_·`; arg15
   holding the pieces of the trips before `k` written over the contents at loop entry `G_·` (stated
   `∃ f, … ∗ ⌜f = …⌝`, so that a hypothesis of any contents matches and the equation is what is
   proved). -/
abbrev inv_k0_t1 (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (k : ℕ) (_u : PUnit) : sProp 𝕄G :=
  iprop((arg4.view.loc (c : Thread nD τ) ↦[arg4.view.set]{fullShare} X_arg4) ∗ (arg5.view.loc (c : Thread nD τ) ↦[arg5.view.set]{fullShare} X_arg5) ∗ (arg9.view.loc (c : Thread nD τ) ↦[arg9.view.set]{fullShare} X_arg9) ∗ (arg10.view.loc (c : Thread nD τ) ↦[arg10.view.set]{fullShare} X_arg10) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (∃ f, (arg15.view.loc (c : Thread nD τ) ↦[arg15.view.set]{fullShare} f) ∗ ⌜f = arg15.view.writes (Elt F) G_arg15 (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k)⌝))

set_option warn.classDefReducibility false in
/-- The loop by its invariant (`@[sl_loop]`: `sl_exec` finds it meeting `k0_t1_loop`,
   fixing `X_· G_·` against the context; after the loop each written memref holds `writes G (pb …
   trips)`). -/
@[sl_loop] def loopInv_k0_t1 (𝒱 : Variants) (c : Dev nD) (bd : Option 𝒱.V) (E : Set ℕ) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 where
  inv := inv_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 G_arg15
  step k acc := by
    iintro ⟨HR_arg4, HR_arg5, HR_arg9, HR_arg10, HR_arg12, HR_arg13, HR_arg14, ⟨%f_arg15, HW_arg15, %h_arg15⟩⟩
    iapply (wp_wand_r Idealize.ShloMosaic.frame (wpE (defs₀ (F := F)) 𝒱 (c : Thread nD τ) bd) E)
    isplitl [HR_arg4 HR_arg5 HR_arg9 HR_arg10 HR_arg12 HR_arg13 HR_arg14 HW_arg15]
    · iapply ((trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 k).2 E f_arg15)
      isplitl [HR_arg4]; · iexact HR_arg4
      isplitl [HR_arg5]; · iexact HR_arg5
      isplitl [HR_arg9]; · iexact HR_arg9
      isplitl [HR_arg10]; · iexact HR_arg10
      isplitl [HR_arg12]; · iexact HR_arg12
      isplitl [HR_arg13]; · iexact HR_arg13
      isplitl [HR_arg14]; · iexact HR_arg14
      iexact HW_arg15
    · iintro %_ ⟨HR_arg4, HR_arg5, HR_arg9, HR_arg10, HR_arg12, HR_arg13, HR_arg14, HW_arg15⟩
      isplitl [HR_arg4]; · iexact HR_arg4
      isplitl [HR_arg5]; · iexact HR_arg5
      isplitl [HR_arg9]; · iexact HR_arg9
      isplitl [HR_arg10]; · iexact HR_arg10
      isplitl [HR_arg12]; · iexact HR_arg12
      isplitl [HR_arg13]; · iexact HR_arg13
      isplitl [HR_arg14]; · iexact HR_arg14
      rw [pb_k0_t1_succ]
      iexists _; isplitl [HW_arg15]; · iexact HW_arg15
      ipureintro; rw [h_arg15, ← View.writes_append]

end Cert.KernelIdeal.Gen

end
-- ==== Proof.KernelIdealRun.lean ====
/- The kernel body run once, on any staging memrefs holding the inputs' blocks: it ends with the inputs as they were
   and with the output's buffer holding the pieces its stores wrote, which the run itself finds (`Gen.kernelRun0_A`). -/
module

public import proofs.«01_k».proof.Proof.KernelIdealKit
public import proofs.«01_k».proof.Proof.KernelIdealLoop

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The kernel body on any staging memrefs: a subtype the run finds -/

/-- One staging buffer of output window 8, through which its contents are stated (`View.read_writes_of_cover`: the
    choice does not matter). -/
abbrev VO0_8 : View sig .tc .vmem S1x211x1024 .bf16 := (Memref.whole cc0_stg8_0 : Memref sig .tc .vmem S1x211x1024 .bf16).view
/-- Each window's current staging memref at point `t`, spelled as the pipeline passes it (`bodyAt0`), and its wholeness. -/
abbrev ms0_0 (hO : Ok m) (t : Fin (cfgM m hO).N) : Memref sig .tc .vmem S1x211x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x224x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x224x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1x2048x128 .i8 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x16x128 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x2048x128 .i8 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1792x224 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x211x1024 .bf16 := spec0_8.stage ((cfgM m hO).slots t 8)
abbrev hs0_8 (hO : Ok m) (t : Fin (cfgM m hO).N) : (ms0_8 m hO t).IsWhole := hstage0_8 (((cfgM m hO).slots t 8).cast nbuf0_8)

/-! ## The side conditions the body assumes, as the frame's hypothesis -/

/-- The side conditions the body ASSUMES of words it loads from its prefetched tables and input SMEM windows, or
    inside a counted loop of the loop's carried counter at every trip (the
    printed `TpuEff.assume (kK_chkN …)`: facts computed from the words that no program decides for every word), at
    EVERY point, over the tables' words (`tbl m`, under `hO`) and the argument blocks' there — spelled as each case's
    run reads them (`View.readAt` through the memref at its held contents), each under the conditions of the
    branches it sits inside. The frame holds under it; Proof.lean proves it from the certificate's precondition (`hyps_of_pre`;
    `View.readAt_apply` and `Memref.IsWhole.read_unread` rewrite a conjunct to the predicate at the word). -/
def Hyps (m : (ℓ : Loc nD τ sig) → Buf (Elt F) ℓ) (hO : Ok m) : Prop :=
  ∀ (c : Dev nD) (t : Fin (cfgM m hO).N),
    k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`. -/
abbrev Hyps.p0 (m : (ℓ : Loc nD τ sig) → Buf (Elt F) ℓ) (hO : Ok m) (c : Dev nD) (t : Fin (cfgM m hO).N) : Prop :=
  k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos)))
variable {m} in
theorem Hyps.c0 {hO : Ok m} (hH : Hyps m hO) (c : Dev nD) (t : Fin (cfgM m hO).N) :
    k0_chk1 (tbM0_0.view.readAt (Elt F) (Rect.unit (s := S12) (k0_off1 (grid0.coords t)) S1.size (k0_off1_inb (grid0.coords t))).toLoadRect (tbl m 0) (Shape.Idx.first (numel1_S1.symm ▸ Nat.one_pos))) := (hH c t)
variable {m} in
theorem Hyps.of {hO : Ok m}
    (p0 : ∀ (c : Dev nD) (t : Fin (cfgM m hO).N), Hyps.p0 m hO c t) :
    Hyps m hO := fun c t =>
  p0 c t

/-- The scratch operands: whole scoped buffers of the kernel's own, passed beside the windows. -/
abbrev scM0_0 : Memref sig .tc .vmem S1792x128 .bf16 := Memref.whole cc0_scratch0
abbrev scM0_1 : Memref sig .tc .vmem S2048x128 .bf16 := Memref.whole cc0_scratch1
abbrev scM0_2 : Memref sig .tc .vmem S2048x128 .bf16 := Memref.whole cc0_scratch2
abbrev scM0_3 : Memref sig .tc .vmem S1792x128 .bf16 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

-- (the run's proof term is large: the definition's epilogue — `abstractNestedProofs` — walks it past the default budget)
set_option maxHeartbeats 1064000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) :
    { L8 : List (View.Piece (Elt F) S1x211x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ tbPt0 c tbM0_0 xt0) -∗ K ⟨⟩))
          ⊢ wp frame (wpE (defs₀ (F := F)) Variants.none c none) E (cc0_lookahead_attention i tbM0_0 htbM0_0 arg3 harg3 arg4 harg4 arg5 harg5 arg6 harg6 arg7 harg7 arg8 harg8 arg9 harg9 arg10 harg10 arg11 harg11 arg12 harg12 arg13 harg13 arg14 harg14 arg15 harg15) K } := by
  refine ⟨?_, fun E K => ?run⟩
  case run =>
    simp only [cc0_lookahead_attention_eq_skeleton]; unfold cc0_lookahead_attention_skel
    simp only [k0_part15_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    have hrd0 : ∀ (𝒱 : Variants) (c : Dev nD) (bd : Option 𝒱.V) (i : grid0.Coords) (arg2 : Memref sig .tc .smem S12 .i32) (harg2 : arg2.IsWhole) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole) (v1 : Elt F .i32) (k0_hw1 : k0_chk1 v1) (v363 : FVec F S128x128 .f32) (v366 : FVec F S128x128 .f32) (v380 : BitVec 32) (X_arg4 : BufTy.Contents (Elt F) arg4.view.ty) (X_arg5 : BufTy.Contents (Elt F) arg5.view.ty) (X_arg9 : BufTy.Contents (Elt F) arg9.view.ty) (X_arg10 : BufTy.Contents (Elt F) arg10.view.ty) (X_arg12 : BufTy.Contents (Elt F) arg12.view.ty) (X_arg13 : BufTy.Contents (Elt F) arg13.view.ty) (X_arg14 : BufTy.Contents (Elt F) arg14.view.ty) (hrdF : BufTy.Contents (Elt F) arg15.view.ty) (hrdB : LoadRect S1792x128), arg15.view.readAt (Elt F) hrdB (arg15.view.writes (Elt F) hrdF (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st))) = arg15.view.readCov (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st)) hrdB := fun 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 hrdF hrdB => View.readAt_writes_of_cover _ hrdF _ hrdB (fun hrdJ => View.cover_of_tiledL (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X_arg4 X_arg5 X_arg9 X_arg10 X_arg12 X_arg13 X_arg14 (Scf.trips k0_t1_loop.lb k0_t1_loop.ub k0_t1_loop.st)) S256x128.size (by sl_kernel_rfl) (hrdB.idx hrdJ))
    sl_exec (disch := first | sl_exact k0_hw1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexact HT0

end Cert.KernelIdeal.Gen

end
-- ==== Proof.KernelIdealFrame.lean ====
/- The kernel's frame: what the output's staging buffer holds after each grid point (`Gen.outsAt0`), the pipeline's
   proof data (`Gen.dats`), the body obligation, the run of @main to the pipeline's post (`Gen.run_main`) and the frame. -/
module

public import proofs.«01_k».proof.Proof.KernelIdealRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's pieces for output 8 tile its block (8 stores of `S1x211x128`, checked by the kernel's evaluation: Lib/Ring.lean `Piece.tiledL`, linear in the pieces, through a loop's `@[irreducible]` trip theorem too), so they cover it. -/
theorem cover0_A_8 (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) (y : S1x211x1024.Idx) :
    ∃ pc ∈ (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1 S1x211x128.size (by sl_kernel_rfl) y

/-- What the run leaves in output 8's staging buffer: its pieces read back over junk. -/
def out0_A_8 (c : Dev nD) (i : grid0.Coords) (arg3 : Memref sig .tc .vmem S1x211x1024 .bf16) (harg3 : arg3.IsWhole) (arg4 : Memref sig .tc .vmem S1x1x224x128 .bf16) (harg4 : arg4.IsWhole) (arg5 : Memref sig .tc .vmem S1x1x224x128 .bf16) (harg5 : arg5.IsWhole) (arg6 : Memref sig .tc .vmem S1x1x2048x128 .i8) (harg6 : arg6.IsWhole) (arg7 : Memref sig .tc .vmem S1x1x16x128 .f32) (harg7 : arg7.IsWhole) (arg8 : Memref sig .tc .vmem S1x1x2048x128 .i8) (harg8 : arg8.IsWhole) (arg9 : Memref sig .tc .vmem S1x1x1x2048 .f32) (harg9 : arg9.IsWhole) (arg10 : Memref sig .tc .vmem S1792x224 .f32) (harg10 : arg10.IsWhole) (arg11 : Memref sig .tc .vmem S1x211x1024 .bf16) (harg11 : arg11.IsWhole) (arg12 : Memref sig .tc .vmem S1792x128 .bf16) (harg12 : arg12.IsWhole) (arg13 : Memref sig .tc .vmem S2048x128 .bf16) (harg13 : arg13.IsWhole) (arg14 : Memref sig .tc .vmem S2048x128 .bf16) (harg14 : arg14.IsWhole) (arg15 : Memref sig .tc .vmem S1792x128 .bf16) (harg15 : arg15.IsWhole)
    (x0 : Vec F S1x211x1024 .bf16) (x1 : Vec F S1x1x224x128 .bf16) (x2 : Vec F S1x1x224x128 .bf16) (x3 : Vec F S1x1x2048x128 .i8) (x4 : Vec F S1x1x16x128 .f32) (x5 : Vec F S1x1x2048x128 .i8) (x6 : Vec F S1x1x1x2048 .f32) (x7 : Vec F S1792x224 .f32) (xt0 : TbBuf0 (F := F) c tbM0_0) (k0_hw1 : k0_chk1 (tbM0_0.view.readAt (Elt F) (Rect.unit (s := S12) (k0_off1 i) S1.size (k0_off1_inb i)).toLoadRect xt0 (Shape.Idx.first (numel1_S1.symm ▸ Nat.one_pos)))) : Vec F S1x211x1024 .bf16 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1)

/-! ## What the outputs hold after each point -/

/-- What the outputs' staging buffers hold after the body at point `t`: the run's contents at
    the point's memrefs and input blocks. -/
def outsAt0 (hO : Ok m) (hH : Hyps m hO) (c : Dev nD) (t : Fin (cfgM m hO).N) : Vec F S1x211x1024 .bf16 :=
  out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) scM0_0 (Memref.isWhole_whole _) scM0_1 (Memref.isWhole_whole _) scM0_2 (Memref.isWhole_whole _) scM0_3 (Memref.isWhole_whole _) (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register) and the tables' halves (`ΦT`); nothing owed;
    full shares. -/
def dats (hO : Ok m) (hH : Hyps m hO) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO hH c t)
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (hH : Hyps m hO) (c : Dev nD) (w : Fin (cfgM m hO).W) : (dats m hO hH 0 c).A w = V m c (Pipeline.arrRef spec0 w) := by
  dsimp only [dats]

/-- What the body leaves, window by window (the proof data's `match` reduced by `dsimp`). -/
theorem after0_0 (hO : Ok m) (hH : Hyps m hO) (c : Dev nD) (t : Fin (cfgM m hO).N) : (dats m hO hH 0 c).after 0 t = iblk m hO c 0 t := by dsimp only [dats]; try rfl
theorem after0_1 (hO : Ok m) (hH : Hyps m hO) (c : Dev nD) (t : Fin (cfgM m hO).N) : (dats m hO hH 0 c).after 1 t = iblk m hO c 1 t := by dsimp only [dats]; try rfl
theorem after0_2 (hO : Ok m) (hH : Hyps m hO) (c : Dev nD) (t : Fin (cfgM m hO).N) : (dats m hO hH 0 c).after 2 t = iblk m hO c 2 t := by dsimp only [dats]; try rfl
theorem after0_3 (hO : Ok m) (hH : Hyps m hO) (c : Dev nD) (t : Fin (cfgM m hO).N) : (dats m hO hH 0 c).after 3 t = iblk m hO c 3 t := by dsimp only [dats]; try rfl
theorem after0_4 (hO : Ok m) (hH : Hyps m hO) (c : Dev nD) (t : Fin (cfgM m hO).N) : (dats m hO hH 0 c).after 4 t = iblk m hO c 4 t := by dsimp only [dats]; try rfl
theorem after0_5 (hO : Ok m) (hH : Hyps m hO) (c : Dev nD) (t : Fin (cfgM m hO).N) : (dats m hO hH 0 c).after 5 t = iblk m hO c 5 t := by dsimp only [dats]; try rfl
theorem after0_6 (hO : Ok m) (hH : Hyps m hO) (c : Dev nD) (t : Fin (cfgM m hO).N) : (dats m hO hH 0 c).after 6 t = iblk m hO c 6 t := by dsimp only [dats]; try rfl
theorem after0_7 (hO : Ok m) (hH : Hyps m hO) (c : Dev nD) (t : Fin (cfgM m hO).N) : (dats m hO hH 0 c).after 7 t = iblk m hO c 7 t := by dsimp only [dats]; try rfl
theorem after0_8 (hO : Ok m) (hH : Hyps m hO) (c : Dev nD) (t : Fin (cfgM m hO).N) : (dats m hO hH 0 c).after 8 t = (outsAt0 m hO hH c t) := by dsimp only [dats]; try rfl

/-- Each input's current staging buffer holds its block at every point, fetched there or not (`beforeK_W_of`). -/
theorem before0_0 (hO : Ok m) (hH : Hyps m hO) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m hO) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m hO) (c : Dev nD) (t : Fin (cfgM m hO).N) (d) : (dats m hO hH 0 c).before 2 t d = iblk m hO c 2 t :=
  before0_2_of m hO (dats m hO hH 0 c) (A_eq m hO hH c 2) (after0_2 m hO hH c) t d
theorem before0_3 (hO : Ok m) (hH : Hyps m hO) (c : Dev nD) (t : Fin (cfgM m hO).N) (d) : (dats m hO hH 0 c).before 3 t d = iblk m hO c 3 t :=
  before0_3_of m hO (dats m hO hH 0 c) (A_eq m hO hH c 3) (after0_3 m hO hH c) t d
theorem before0_4 (hO : Ok m) (hH : Hyps m hO) (c : Dev nD) (t : Fin (cfgM m hO).N) (d) : (dats m hO hH 0 c).before 4 t d = iblk m hO c 4 t :=
  before0_4_of m hO (dats m hO hH 0 c) (A_eq m hO hH c 4) (after0_4 m hO hH c) t d
theorem before0_5 (hO : Ok m) (hH : Hyps m hO) (c : Dev nD) (t : Fin (cfgM m hO).N) (d) : (dats m hO hH 0 c).before 5 t d = iblk m hO c 5 t :=
  before0_5_of m hO (dats m hO hH 0 c) (A_eq m hO hH c 5) (after0_5 m hO hH c) t d
theorem before0_6 (hO : Ok m) (hH : Hyps m hO) (c : Dev nD) (t : Fin (cfgM m hO).N) (d) : (dats m hO hH 0 c).before 6 t d = iblk m hO c 6 t :=
  before0_6_of m hO (dats m hO hH 0 c) (A_eq m hO hH c 6) (after0_6 m hO hH c) t d
theorem before0_7 (hO : Ok m) (hH : Hyps m hO) (c : Dev nD) (t : Fin (cfgM m hO).N) (d) : (dats m hO hH 0 c).before 7 t d = iblk m hO c 7 t :=
  before0_7_of m hO (dats m hO hH 0 c) (A_eq m hO hH c 7) (after0_7 m hO hH c) t d

/-! ## The body obligation, at a generic point -/

/-- What the body is called with at point `t` (Lib/Pipeline.lean `BodyObligation`'s precondition, the windows one by one), -/
def bodyPre (hO : Ok m) (hH : Hyps m hO) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d))
    ∗ (∃ d, owns (c : Thread nD τ) (ms0_4 m hO t) fullShare ((dats m hO hH 0 c).before 4 t d))
    ∗ (∃ d, owns (c : Thread nD τ) (ms0_5 m hO t) fullShare ((dats m hO hH 0 c).before 5 t d))
    ∗ (∃ d, owns (c : Thread nD τ) (ms0_6 m hO t) fullShare ((dats m hO hH 0 c).before 6 t d))
    ∗ (∃ d, owns (c : Thread nD τ) (ms0_7 m hO t) fullShare ((dats m hO hH 0 c).before 7 t d))
    ∗ (∃ d, owns (c : Thread nD τ) (ms0_8 m hO t) fullShare ((dats m hO hH 0 c).before 8 t d)))

/-- and what it returns. -/
def bodyPost (hO : Ok m) (hH : Hyps m hO) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t)
    ∗ owns (c : Thread nD τ) (ms0_4 m hO t) fullShare ((dats m hO hH 0 c).after 4 t)
    ∗ owns (c : Thread nD τ) (ms0_5 m hO t) fullShare ((dats m hO hH 0 c).after 5 t)
    ∗ owns (c : Thread nD τ) (ms0_6 m hO t) fullShare ((dats m hO hH 0 c).after 6 t)
    ∗ owns (c : Thread nD τ) (ms0_7 m hO t) fullShare ((dats m hO hH 0 c).after 7 t)
    ∗ owns (c : Thread nD τ) (ms0_8 m hO t) fullShare ((dats m hO hH 0 c).after 8 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (hO : Ok m) (hH : Hyps m hO) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2, before0_3, before0_4, before0_5, before0_6, before0_7]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3, after0_4, after0_5, after0_6, after0_7, after0_8]
  rw [show (dats m hO hH 0 c).Φ t.castSucc = iprop(Pipeline.ΦA spec0 c ∗ Pipeline.ΦT pre0 (tbl m) c) from rfl, PhiT0_eq, PhiA0_eq]
  unfold outsAt0
  unfold out0_A_8
  iintro ⟨⟨⟨⟨HS0, HS1, HS2, HS3⟩, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (iblk m hO c 7 t) (tbl m 0) (Hyps.c0 hH c t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HT0]; · iexact HT0
  iintro ⟨H0, H1, H2, H3, H4, H5, H6, H7, ⟨%e8, H8⟩, HS0, HS1, HS2, HS3, HT0⟩
  isplitl [HS0 HS1 HS2 HS3 Hg HT0]
  · isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    iexact HT0
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover0_A_8 c _ _ _ _ _ _ _ _ _ _ _ _ _ _ _ _ _ _ _ _ _ _ _ _ _ _ _ _ _ _ _ _ _ _ _ _ _)

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hH : Hyps m hO) (c : Dev nD) : BodyObligation (dats (F := F) m hO hH 0 c) (defs₀ (F := F)) Variants.none () Set.univ := fun t => by
  rw [bigSep_W0, bigSep_W0, defs₀_row m hO]
  exact triple_restated (sound_body m hO hH c t) rfl .rfl fun _ => .rfl

/-! ## The run and the frame -/

-- `θ_run_frameP`'s implicit arguments are found by unifying its conclusion with this one, which takes unfolding plain
-- definitions in a metavariable's type
set_option backward.isDefEq.respectTransparency.types false in
set_option maxHeartbeats 2000000 in
/-- THE LAUNCH: `run_main`'s statement, and every semaphore counter of the machine at zero at every final state. -/
theorem run_main_quiescent (hO : Ok m) (hH : Hyps m hO) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main (hO : Ok m) (hH : Hyps m hO) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- `frame` without the counters: the argument arrays end unchanged. -/
theorem unchanged (hO : Ok m) (hH : Hyps m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ hO (dats m hO hH) (A_eq m hO hH) (run_main m ρ hO hH)

/-- The frame: the argument arrays end unchanged and every semaphore counter ends at zero, for every contents of the
    cache-length table under `Gen.Ok m` and `Gen.Hyps m hO` (the side conditions the body assumes of the words it reads). -/
theorem frame (hO : Ok m) (hH : Hyps m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ hO hH) ((θ_run defs _ _).mono (fun _ h => h.2) (run_main_quiescent m ρ hO hH))

end Cert.KernelIdeal.Gen

end
-- ==== Proof.KernelIdealLengths.lean ====
/- The cache length's arithmetic: for a length of at most 2048 the loop over cache blocks makes
   `⌈length / 512⌉` trips (none for a length that is not positive), trip `k` reads the 512 rows from
   `512 k`, inside the cache, and the remainder loop makes none; so the side condition the body assumes
   of the length it reads holds. -/
module

public import proofs.«01_k».proof.Proof.Gen.KernelIdeal.Skeleton
public import Idealize.ShloMosaic.Lib.WordArith.Masks
public import Idealize.ShloMosaic.Lib.ClampedCount

@[expose] public section

noncomputable section

namespace Cert.KernelIdeal.Gen

open Idealize.ShloMosaic

/-- The upper bound of the block loop, as the kernel's operations compute it, is one division. -/
theorem nk_word (v : BitVec 32) : (k0_t2_loop v).ub = (v + 511#32).sdiv 512#32 := by
  have hc : ¬ IntOp.SDivCorner (v + 511#32) 512#32 := by
    unfold IntOp.SDivCorner; rintro (h | ⟨-, h⟩) <;> revert h <;> decide
  show Scalar.addi 0#32 (Scalar.muli (Scalar.divsi (Scalar.subi (Scalar.divsi (Scalar.addi v 511#32) 512#32) 0#32) 1#32) 1#32) = _
  simp only [Scalar.addi, Scalar.muli, Scalar.divsi, Scalar.subi, IntOp.addi, IntOp.muli, IntOp.subi, WordArith.divsi_one,
    BitVec.mul_one, BitVec.sub_zero, BitVec.zero_add]
  unfold IntOp.divsi; rw [if_neg hc]

/-- The bound read as an integer, for a length of at most 2048. -/
theorem nk_toInt (v : BitVec 32) (h : v.toInt ≤ 2048) : ((v + 511#32).sdiv 512#32).toInt = (v.toInt + 511).tdiv 512 := by
  rw [BitVec.toInt_sdiv_of_ne_or_ne _ _ (.inr (by decide))]
  have : (v + 511#32).toInt = v.toInt + 511 := by
    have := BitVec.le_toInt v; have h5 : (511#32 : BitVec 32).toInt = 511 := by decide
    rw [BitVec.toInt_add, h5, Int.bmod_def]; omega
  rw [this]; rfl

/-- The block loop's trips. -/
theorem trips_t2 (v : BitVec 32) (h : v.toInt ≤ 2048) : (k0_t2_loop v).trips = ((v.toInt + 511) / 512).toNat := by
  show ((((k0_t2_loop v).ub).toInt - (0#32 : BitVec 32).toInt + (1#32 : BitVec 32).toInt - 1) / (1#32 : BitVec 32).toInt).toNat = _
  rw [nk_word, nk_toInt v h, Int.tdiv_eq_ediv]
  have h0 : (0#32 : BitVec 32).toInt = 0 := by decide
  have h1 : (1#32 : BitVec 32).toInt = 1 := by decide
  rw [h0, h1, Int.ediv_one]
  split <;> simp [Int.sign] <;> omega

theorem trips_t2_le (v : BitVec 32) (h : v.toInt ≤ 2048) : (k0_t2_loop v).trips ≤ 4 := by
  rw [trips_t2 v h]; omega

/-- The remainder loop makes no trip. -/
theorem trips_t3 (v : BitVec 32) : (k0_t3_loop v).trips = 0 := by
  have hub : (k0_t3_loop v).ub = (k0_t3_loop v).lb := by
    show Scalar.addi 0#32 (Scalar.subi (Scalar.divsi (Scalar.addi v 511#32) 512#32) 0#32)
      = Scalar.addi 0#32 (Scalar.muli (Scalar.divsi (Scalar.subi (Scalar.divsi (Scalar.addi v 511#32) 512#32) 0#32) 1#32) 1#32)
    generalize Scalar.divsi (Scalar.addi v 511#32) 512#32 = w
    simp only [Scalar.addi, Scalar.muli, Scalar.divsi, Scalar.subi, IntOp.addi, IntOp.muli, IntOp.subi, WordArith.divsi_one, BitVec.mul_one]
  show Scf.trips (k0_t3_loop v).lb (k0_t3_loop v).ub 1#32 = 0
  rw [hub]; unfold Scf.trips
  have h1 : (1#32 : BitVec 32).toInt = 1 := by decide
  rw [h1]; omega

theorem no_t3 (v : BitVec 32) (k : Fin (k0_t3_loop v).trips) : False := by
  have := trips_t3 v; have := k.isLt; omega

/-- Trip `k`'s first row. -/
theorem row_word (k : ℕ) (hk : k < 4) : (Scalar.muli (Scf.iv 0#32 1#32 k) 512#32).toNat = 512 * k := by
  rw [Scalar.muli, IntOp.muli, BitVec.toNat_mul, WordArith.toNat_iv_zero_one k (by omega)]
  show k * 512 % 2 ^ 32 = _; omega

theorem off4_eq (v : BitVec 32) (k : Fin (k0_t2_loop v).trips) (hk : k.val < 4) : k0_off4 v k = ![512 * k.val, 0] := by
  show ![(Scalar.muli (Scf.iv 0#32 1#32 k.val) 512#32).toNat, 0] = _
  rw [row_word k.val hk]

theorem off5_eq (v : BitVec 32) (k : Fin (k0_t2_loop v).trips) (hk : k.val < 4) : k0_off5 v k = ![0, 0, 0, 512 * k.val] := by
  show ![(0#32 : BitVec 32).toNat, (0#32 : BitVec 32).toNat, (0#32 : BitVec 32).toNat, (Scalar.muli (Scf.iv 0#32 1#32 k.val) 512#32).toNat] = _
  rw [row_word k.val hk]; rfl

/-- The side condition the body assumes of the cache length it reads, for a length of at most 2048. -/
theorem chk_of_le (v : BitVec 32) (h : v.toInt ≤ 2048) : k0_chk1 v := by
  have h4 : ∀ k : Fin (k0_t2_loop v).trips, k.val < 4 := fun k => lt_of_lt_of_le k.isLt (trips_t2_le v h)
  have h1 : (1#32 : BitVec 32).toInt = 1 := by decide
  refine ⟨⟨by show 0 < (1#32 : BitVec 32).toInt; decide, ?_⟩, fun k => ?_, fun k => ?_, fun k => ?_, ⟨by show 0 < (1#32 : BitVec 32).toInt; decide, ?_⟩,
    fun k => (no_t3 v k).elim, fun k => (no_t3 v k).elim, fun k => (no_t3 v k).elim⟩
  · show (0#32 : BitVec 32).toInt + ((k0_t2_loop v).trips : Int) * (1#32 : BitVec 32).toInt < 2 ^ 31
    have h0 : (0#32 : BitVec 32).toInt = 0 := by decide
    have := trips_t2_le v h; rw [h0, h1]; omega
  · show 512 ∣ (Scalar.muli (Scf.iv 0#32 1#32 k.val) 512#32).toNat
    rw [row_word k.val (h4 k)]; exact ⟨_, rfl⟩
  · rw [off4_eq v k (h4 k)]; have := h4 k; intro a; fin_cases a <;> simp [S512x128, S2048x128] <;> omega
  · rw [off5_eq v k (h4 k)]; have := h4 k; intro a; fin_cases a <;> simp [S1x1x1x512, S1x1x1x2048] <;> omega
  · show (k0_t3_loop v).lb.toInt + ((k0_t3_loop v).trips : Int) * (1#32 : BitVec 32).toInt < 2 ^ 31
    rw [trips_t3, h1]; have := BitVec.toInt_lt (x := (k0_t3_loop v).lb); omega

end Cert.KernelIdeal.Gen

end
-- ==== Proof.KernelIdealHyps.lean ====
/- The frame of `KernelIdeal` from the claims' preconditions: every cache length at most 2048 gives the side condition the body
   assumes at every grid point (`Gen.hyps_of_le`), hence the frame (`Gen.frame_of_le`). -/
module

public import proofs.«01_k».proof.Proof.KernelIdealFrame
public import proofs.«01_k».proof.Proof.KernelIdealLengths

@[expose] public section

noncomputable section

namespace Cert.KernelIdeal.Gen

open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-- No window's index map reads the table: the pipeline's side condition of it is `True`. -/
theorem ok_all : Ok m := trivial

/-- The table holds the launched cache lengths. -/
theorem tbl_eq : tbl m 0 = m (((0 : Dev nD).tc : Thread nD τ).loc main_arg7) := V_main_arg7 m 0

/-- Cache lengths of at most 2048 give the side condition the body assumes, at every point. -/
theorem hyps_of_le (h : ∀ i : S12.Idx, (m (((0 : Dev nD).tc : Thread nD τ).loc main_arg7) i : BitVec 32).toInt ≤ 2048) : Hyps m (ok_all m) := by
  intro c t
  refine chk_of_le _ ?_
  rw [tbl_eq]
  exact h _

/-- The frame, with every semaphore counter at zero, from cache lengths of at most 2048. -/
theorem frame_of_le (h : ∀ i : S12.Idx, (m (((0 : Dev nD).tc : Thread nD τ).loc main_arg7) i : BitVec 32).toInt ≤ 2048) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  frame m ρ (ok_all m) (hyps_of_le m h)

end Cert.KernelIdeal.Gen

end
-- ==== Proof.Softmax.lean ====
/- The mathematics of a softmax whose keys are taken in blocks, over the extended reals: the running maximum, the running
   denominator and the running weighted sum, and what they come to after all blocks. -/
module

public import Idealize.ShloMosaic.PureOps.Ideal
public import Idealize.ShloMosaic.PureOps.Ideal.Laws

@[expose] public section

noncomputable section

namespace Cert.Softmax

open Idealize.ShloMosaic

/-- A score that is below plus infinity, shifted by a real and exponentiated, is a nonnegative real. -/
theorem exp_sub_real (s : EReal) (hs : s ≠ ⊤) (m : ℝ) : ∃ r : ℝ, 0 ≤ r ∧ Ideal.exp (s - m) = (r : EReal) := by
  induction s with
  | bot => exact ⟨0, le_rfl, by simp⟩
  | coe s => exact ⟨Real.exp (s - m), (Real.exp_pos _).le, by rw [← EReal.coe_sub]; rfl⟩
  | top => exact absurd rfl hs

/-- Shifting an exponential from one maximum to the next is a multiplication. -/
theorem exp_shift (s : EReal) (hs : s ≠ ⊤) (m m' : ℝ) :
    Ideal.exp (s - m) * Ideal.exp ((m : EReal) - m') = Ideal.exp (s - m') := by
  induction s with
  | bot => simp
  | coe s =>
    rw [← EReal.coe_sub, ← EReal.coe_sub, ← EReal.coe_sub, Ideal.exp_coe, Ideal.exp_coe, Ideal.exp_coe, ← EReal.coe_mul,
      ← Real.exp_add]
    congr 2; ring
  | top => exact absurd rfl hs

/-- A nonnegative real multiplier goes into a sum. -/
theorem sum_mul_real {ι : Type} (S : Finset ι) (f : ι → EReal) (r : EReal) (h0 : 0 ≤ r) (ht : r ≠ ⊤) :
    (∑ i ∈ S, f i) * r = ∑ i ∈ S, f i * r := by
  classical
  induction S using Finset.induction_on with
  | empty => simp
  | insert i S hi ih =>
    rw [Finset.sum_insert hi, Finset.sum_insert hi, EReal.right_distrib_of_nonneg_of_ne_top h0 ht, ih]

/-- Division by a positive real is a multiplication by its inverse. -/
theorem div_real (x : EReal) (r : ℝ) (h : 0 < r) : Ideal.div x r = x * ((r⁻¹ : ℝ) : EReal) := by
  unfold Ideal.div
  rw [if_neg (by exact_mod_cast h.ne'), EReal.coe_inv]

/-- Division by a positive real goes into a sum. -/
theorem sum_div_real {ι : Type} (S : Finset ι) (f : ι → EReal) (r : ℝ) (h : 0 < r) :
    Ideal.div (∑ i ∈ S, f i) r = ∑ i ∈ S, Ideal.div (f i) r := by
  simp only [div_real _ r h]
  exact sum_mul_real S f _ (by exact_mod_cast (inv_pos.mpr h).le) (EReal.coe_ne_top _)

section Online

variable (n B : ℕ) (sn a sc w : ℕ → EReal)

/-- The maximum after `j` blocks of `B` cached keys: over all `n` new keys and the cached keys before `B * j`. -/
def M (j : ℕ) : EReal := max ((Finset.range n).sup sn) ((Finset.range (B * j)).sup sc)

/-- The denominator after `j` blocks. -/
def D (j : ℕ) : EReal :=
  (∑ u ∈ Finset.range n, Ideal.exp (sn u - M n B sn sc j)) + ∑ p ∈ Finset.range (B * j), Ideal.exp (sc p - M n B sn sc j)

/-- The weighted sum after `j` blocks. -/
def A (j : ℕ) : EReal :=
  (∑ u ∈ Finset.range n, Ideal.exp (sn u - M n B sn sc j) * a u)
    + ∑ p ∈ Finset.range (B * j), Ideal.exp (sc p - M n B sn sc j) * w p

theorem range_split (j : ℕ) (f : ℕ → EReal) :
    ∑ p ∈ Finset.range (B * (j + 1)), f p = (∑ p ∈ Finset.range (B * j), f p) + ∑ k ∈ Finset.range B, f (B * j + k) := by
  rw [Nat.mul_succ, Finset.sum_range_add]

theorem sup_split (j : ℕ) (f : ℕ → EReal) :
    (Finset.range (B * (j + 1))).sup f = max ((Finset.range (B * j)).sup f) ((Finset.range B).sup fun k => f (B * j + k)) := by
  apply le_antisymm
  · refine Finset.sup_le fun p hp => ?_
    rw [Finset.mem_range, Nat.mul_succ] at hp
    by_cases h : p < B * j
    · exact le_max_of_le_left (Finset.le_sup (f := f) (Finset.mem_range.mpr h))
    · refine le_max_of_le_right ?_
      have := Finset.le_sup (f := fun k => f (B * j + k)) (Finset.mem_range.mpr (show p - B * j < B by omega))
      simpa [show B * j + (p - B * j) = p by omega] using this
  · refine max_le (Finset.sup_le fun p hp => ?_) (Finset.sup_le fun k hk => ?_)
    · refine Finset.le_sup (f := f) (Finset.mem_range.mpr ?_)
      rw [Finset.mem_range] at hp; rw [Nat.mul_succ]; omega
    · refine Finset.le_sup (f := f) (Finset.mem_range.mpr ?_)
      rw [Finset.mem_range] at hk; rw [Nat.mul_succ]; omega

/-- The maximum before any block is the new keys' own. -/
theorem M_zero : M n B sn sc 0 = (Finset.range n).sup sn := by
  unfold M; simp

/-- One block's maximum. -/
theorem M_succ (j : ℕ) : M n B sn sc (j + 1) = max (M n B sn sc j) ((Finset.range B).sup fun k => sc (B * j + k)) := by
  unfold M; rw [sup_split, max_assoc]

variable (hn : 0 < n) (h0 : sn 0 ≠ ⊥) (hsn : ∀ u, sn u ≠ ⊤) (hsc : ∀ p, sc p ≠ ⊤)

include hn h0 hsn hsc in
/-- The maximum is a real. -/
theorem M_real (j : ℕ) : ∃ r : ℝ, M n B sn sc j = (r : EReal) := by
  have hb : M n B sn sc j ≠ ⊥ := by
    refine ne_of_gt (lt_of_lt_of_le (bot_lt_iff_ne_bot.mpr h0) ?_)
    exact le_max_of_le_left (Finset.le_sup (f := sn) (Finset.mem_range.mpr hn))
  have ht : M n B sn sc j ≠ ⊤ := by
    refine ne_of_lt (max_lt ?_ ?_)
    · exact (Finset.sup_lt_iff bot_lt_top).mpr fun u _ => lt_top_iff_ne_top.mpr (hsn u)
    · exact (Finset.sup_lt_iff bot_lt_top).mpr fun u _ => lt_top_iff_ne_top.mpr (hsc u)
  exact ⟨_, (EReal.coe_toReal ht hb).symm⟩

include hn h0 hsn hsc in
/-- One block's denominator: the old one rescaled, and the block's exponentials. -/
theorem D_succ (j : ℕ) : D n B sn sc (j + 1)
    = D n B sn sc j * Ideal.exp (M n B sn sc j - M n B sn sc (j + 1))
      + ∑ k ∈ Finset.range B, Ideal.exp (sc (B * j + k) - M n B sn sc (j + 1)) := by
  obtain ⟨m, hm⟩ := M_real n B sn sc hn h0 hsn hsc j
  obtain ⟨m', hm'⟩ := M_real n B sn sc hn h0 hsn hsc (j + 1)
  unfold D
  rw [hm, hm']
  obtain ⟨r, hr, hre⟩ := exp_sub_real (m : EReal) (EReal.coe_ne_top _) m'
  have h0' : (0 : EReal) ≤ Ideal.exp ((m : EReal) - m') := by rw [hre]; exact_mod_cast hr
  have ht' : Ideal.exp ((m : EReal) - m') ≠ ⊤ := by rw [hre]; exact EReal.coe_ne_top _
  rw [range_split, EReal.right_distrib_of_nonneg_of_ne_top h0' ht', sum_mul_real _ _ _ h0' ht', sum_mul_real _ _ _ h0' ht',
    add_assoc]
  simp only [exp_shift _ (hsn _), exp_shift _ (hsc _)]

include hn h0 hsn hsc in
/-- One block's weighted sum: the old one rescaled, and the block's. -/
theorem A_succ (j : ℕ) : A n B sn a sc w (j + 1)
    = A n B sn a sc w j * Ideal.exp (M n B sn sc j - M n B sn sc (j + 1))
      + ∑ k ∈ Finset.range B, Ideal.exp (sc (B * j + k) - M n B sn sc (j + 1)) * w (B * j + k) := by
  obtain ⟨m, hm⟩ := M_real n B sn sc hn h0 hsn hsc j
  obtain ⟨m', hm'⟩ := M_real n B sn sc hn h0 hsn hsc (j + 1)
  unfold A
  rw [hm, hm']
  obtain ⟨r, hr, hre⟩ := exp_sub_real (m : EReal) (EReal.coe_ne_top _) m'
  have h0' : (0 : EReal) ≤ Ideal.exp ((m : EReal) - m') := by rw [hre]; exact_mod_cast hr
  have ht' : Ideal.exp ((m : EReal) - m') ≠ ⊤ := by rw [hre]; exact EReal.coe_ne_top _
  have e1 : ∀ u, Ideal.exp (sn u - m) * a u * Ideal.exp ((m : EReal) - m') = Ideal.exp (sn u - m') * a u := fun u => by
    rw [mul_right_comm, exp_shift _ (hsn u)]
  have e2 : ∀ p, Ideal.exp (sc p - m) * w p * Ideal.exp ((m : EReal) - m') = Ideal.exp (sc p - m') * w p := fun p => by
    rw [mul_right_comm, exp_shift _ (hsc p)]
  rw [range_split, EReal.right_distrib_of_nonneg_of_ne_top h0' ht', sum_mul_real _ _ _ h0' ht', sum_mul_real _ _ _ h0' ht',
    add_assoc]
  simp only [e1, e2]

end Online

/-- A sum whose terms vanish from `n` on may stop there. -/
theorem sum_range_trim (n N : ℕ) (h : n ≤ N) (f : ℕ → EReal) (hf : ∀ p, n ≤ p → f p = 0) :
    ∑ p ∈ Finset.range N, f p = ∑ p ∈ Finset.range n, f p :=
  (Finset.sum_subset (Finset.range_mono h) fun p _ hp => hf p (by simpa using hp)).symm

/-- A maximum whose entries are minus infinity from `n` on may stop there. -/
theorem sup_range_trim (n N : ℕ) (h : n ≤ N) (f : ℕ → EReal) (hf : ∀ p, n ≤ p → f p = ⊥) :
    (Finset.range N).sup f = (Finset.range n).sup f := by
  apply le_antisymm
  · refine Finset.sup_le fun p hp => ?_
    by_cases hpn : p < n
    · exact Finset.le_sup (f := f) (Finset.mem_range.mpr hpn)
    · rw [hf p (by omega)]; exact bot_le
  · exact Finset.sup_mono (Finset.range_mono h)

/-- The plain softmax, its new keys `n` and its cached keys `N`: the maximum, the denominator and the result. -/
def refMax (n N : ℕ) (sn sc : ℕ → EReal) : EReal := max ((Finset.range N).sup sc) ((Finset.range n).sup sn)
def refDen (n N : ℕ) (sn sc : ℕ → EReal) : EReal :=
  (∑ p ∈ Finset.range N, Ideal.exp (sc p - refMax n N sn sc)) + ∑ u ∈ Finset.range n, Ideal.exp (sn u - refMax n N sn sc)
def refOut (n N : ℕ) (sn a sc w : ℕ → EReal) : EReal :=
  (∑ p ∈ Finset.range N, Ideal.div (Ideal.exp (sc p - refMax n N sn sc)) (refDen n N sn sc) * w p)
    + ∑ u ∈ Finset.range n, Ideal.div (Ideal.exp (sn u - refMax n N sn sc)) (refDen n N sn sc) * a u

/-- The blocked softmax gives what the plain one gives, where the new keys past `n'` and the cached keys past the last
    block taken are masked. -/
theorem online_eq (n n' B N J : ℕ) (sn a sc w : ℕ → EReal) (hn' : 0 < n') (hle : n' ≤ n) (hJ : B * J ≤ N)
    (h0 : sn 0 ≠ ⊥) (hsn : ∀ u, sn u ≠ ⊤) (hsc : ∀ p, sc p ≠ ⊤) (hun : ∀ u, n' ≤ u → sn u = ⊥)
    (hup : ∀ p, B * J ≤ p → sc p = ⊥) :
    Ideal.div (A n B sn a sc w J) (D n B sn sc J) = refOut n' N sn a sc w := by
  have hM : M n B sn sc J = refMax n' N sn sc := by
    unfold M refMax
    rw [sup_range_trim n' n hle sn hun, sup_range_trim (B * J) N hJ sc hup, max_comm]
  obtain ⟨m, hm⟩ := M_real n B sn sc (by omega) h0 hsn hsc J
  have zn : ∀ u, n' ≤ u → Ideal.exp (sn u - (m : EReal)) = 0 := fun u hu => by rw [hun u hu]; simp
  have zp : ∀ p, B * J ≤ p → Ideal.exp (sc p - (m : EReal)) = 0 := fun p hp => by rw [hup p hp]; simp
  have hD : D n B sn sc J = refDen n' N sn sc := by
    unfold D refDen
    rw [← hM, hm, sum_range_trim n' n hle _ zn, sum_range_trim (B * J) N hJ _ zp, add_comm]
  have hDr : ∃ r : ℝ, 0 < r ∧ refDen n' N sn sc = (r : EReal) := by
    have hex : ∀ s : ℕ → EReal, (∀ i, s i ≠ ⊤) → ∀ S : Finset ℕ,
        ∃ r : ℝ, 0 ≤ r ∧ ∑ i ∈ S, Ideal.exp (s i - (m : EReal)) = (r : EReal) := by
      intro s hs S
      classical
      induction S using Finset.induction_on with
      | empty => exact ⟨0, le_rfl, by simp⟩
      | insert i S hi ih =>
        obtain ⟨r, hr, e⟩ := ih
        obtain ⟨q, hq, e'⟩ := exp_sub_real (s i) (hs i) m
        exact ⟨q + r, by positivity, by rw [Finset.sum_insert hi, e, e', EReal.coe_add]⟩
    unfold refDen
    rw [← hM, hm]
    obtain ⟨k, rfl⟩ : ∃ k, n' = k + 1 := ⟨n' - 1, by omega⟩
    obtain ⟨r, hr, e⟩ := hex sc hsc (Finset.range N)
    obtain ⟨q, hq, e'⟩ := hex (fun i => sn (i + 1)) (fun i => hsn _) (Finset.range k)
    rw [Finset.sum_range_succ', e, e']
    obtain ⟨s0, hs0⟩ : ∃ s0 : ℝ, sn 0 = (s0 : EReal) := ⟨_, (EReal.coe_toReal (hsn 0) h0).symm⟩
    refine ⟨r + (q + Real.exp (s0 - m)), by have := Real.exp_pos (s0 - m); linarith, ?_⟩
    rw [hs0, ← EReal.coe_sub, Ideal.exp_coe, EReal.coe_add, EReal.coe_add]
  obtain ⟨r, hr, hre⟩ := hDr
  rw [hD, hre]
  unfold A refOut
  rw [hre, ← hM, hm]
  have e : ∀ x y : EReal, Ideal.div x (r : EReal) * y = Ideal.div (x * y) r := fun x y => by
    rw [div_real _ r hr, div_real _ r hr, mul_right_comm]
  simp only [e]
  rw [← sum_div_real _ _ r hr, ← sum_div_real _ _ r hr, sum_range_trim n' n hle _ (fun u hu => by rw [zn u hu, zero_mul]),
    sum_range_trim (B * J) N hJ _ (fun p hp => by rw [zp p hp, zero_mul])]
  rw [div_real _ r hr, div_real _ r hr, div_real _ r hr,
    EReal.right_distrib_of_nonneg_of_ne_top (by exact_mod_cast (inv_pos.mpr hr).le) (EReal.coe_ne_top _), add_comm]

end Cert.Softmax

end
-- ==== Proof.KernelIdealPay.lean ====
/- The kernel's values at an index, over the extended reals: what one row of a tile of queries holds after the new keys
   (`row_init`), after one block of cached keys (`row_step`) and when it is divided, in the terms of Softmax.lean. -/
module

public import proofs.«01_k».proof.Proof.KernelIdealLengths
public import proofs.«01_k».proof.Proof.Softmax
public import Idealize.ShloMosaic.Lib.Pointwise

@[expose] public section

set_option maxRecDepth 16384

noncomputable section

namespace Cert.KernelIdeal.Gen

open Idealize.ShloMosaic Idealize.ShloMosaic.TcCoe Cert.Softmax

/-- The scale of the scores, the printed constant's value. -/
abbrev scale : EReal := Ideal.ofBits .f32 0x3DB504F3#32

/-- The mask's value is minus infinity. -/
theorem mask_bot : (Named.named κ "mask" (0xF149F2CA#32 : BitVec 32) : Ideal .f32) = (⊥ : EReal) := rfl

theorem ofBits_negInf : Ideal.ofBits .f32 0xFF800000#32 = (⊥ : EReal) := by
  simp [Ideal.ofBits, Ideal.ieee]

/-- A maximum over `Fin n` of a function of the number is the maximum over the range. -/
theorem fold_range (n : ℕ) (f : ℕ → EReal) :
    Finset.fold max ⊥ (fun k : Fin n => f k.val) Finset.univ = (Finset.range n).sup f := by
  show Finset.univ.sup (fun k : Fin n => f k.val) = _
  apply le_antisymm
  · exact Finset.sup_le fun k _ => Finset.le_sup (f := f) (Finset.mem_range.mpr k.isLt)
  · refine Finset.sup_le fun k hk => ?_
    exact Finset.le_sup (f := fun k : Fin n => f k.val) (Finset.mem_univ ⟨k, Finset.mem_range.mp hk⟩)

/-- The scores against the new keys. -/
theorem pay2_at (q : Vec Ideal S256x128 .bf16) (kn : Vec Ideal S1x1x224x128 .bf16) (mk : Vec Ideal S256x224 .f32) (r : Fin 256) (u : Fin 224) :
    k0_pay2 q kn mk (ix2 r u)
      = (∑ x : Fin 128, q (ix2 r x) * kn (ix4 0 0 u x)) * scale + if (0 : EReal) < mk (ix2 r u) then 0 else ⊥ := by
  pointwise [k0_pay2]
  rw [mask_bot]

/-- The position a block's key stands at, as the kernel computes it, is below the length exactly when the number is. -/
theorem pos_lt (v : BitVec 32) (k p : ℕ) (hk : k < 4) (hp : p < 512) :
    IntOp.cmpi .slt (IntOp.addi (Scalar.muli (Scf.iv 0#32 1#32 k) 512#32) (BitVec.ofNat 32 p)) v = 1#1
      ↔ ((512 * k + p : ℕ) : ℤ) < v.toInt := by
  have h : (IntOp.addi (Scalar.muli (Scf.iv 0#32 1#32 k) 512#32) (BitVec.ofNat 32 p)).toInt = ((512 * k + p : ℕ) : ℤ) := by
    have e : (IntOp.addi (Scalar.muli (Scf.iv 0#32 1#32 k) 512#32) (BitVec.ofNat 32 p)).toNat = 512 * k + p := by
      rw [IntOp.addi, BitVec.toNat_add, row_word k hk, BitVec.toNat_ofNat]; omega
    rw [BitVec.toInt_eq_toNat_of_lt (by rw [e]; omega), e]
  rw [← h]
  show BitVec.ofBool (BitVec.slt _ _) = 1#1 ↔ _
  rw [← BitVec.slt_iff_toInt_lt]
  cases BitVec.slt (IntOp.addi (Scalar.muli (Scf.iv 0#32 1#32 k) 512#32) (BitVec.ofNat 32 p)) v <;> decide

/-- The scores against a block of cached keys. -/
theorem pay57_at (v1 : BitVec 32) (q : Vec Ideal S256x128 .bf16) (j : Fin (k0_t2_loop v1).trips) (hj : j.val < 4)
    (kb : Vec Ideal S512x128 .bf16) (r : Fin 256) (p : Fin 512) :
    k0_pay57 (F := Ideal) v1 q (0#32) j kb (ix2 r p)
      = if ((512 * j.val + p.val : ℕ) : ℤ) < v1.toInt then (∑ x : Fin 128, q (ix2 r x) * kb (ix2 p x)) * scale else ⊥ := by
  unfold k0_pay57
  simp only [← pos_lt v1 j.val p.val hj p.isLt]
  generalize Scalar.muli (Scf.iv 0#32 1#32 j.val) 512#32 = w
  pointwise []
  rw [mask_bot]
  rfl

section Block

variable (v1 : BitVec 32) (q : Vec Ideal S256x128 .bf16) (j : Fin (k0_t2_loop v1).trips) (kb vb : Vec Ideal S512x128 .bf16)
    (vs : Vec Ideal S1x1x1x512 .f32) (m e : FVec Ideal S256x1 .f32) (acc : FVec Ideal S256x128 .f32) (r : Fin 256) (d : Fin 128)

/-- One block's operations at an index, each in the values before it. -/
theorem pay58_at : k0_pay58 (F := Ideal) v1 q (0#32) j m kb (ix2 r 0)
    = max (m (ix2 r 0)) (Finset.fold max (Ideal.ofBits .f32 0xFF800000#32)
        (fun p : Fin 512 => k0_pay57 (F := Ideal) v1 q (0#32) j kb (ix2 r p)) Finset.univ) := by pointwise [k0_pay58]

theorem pay59_at : k0_pay59 (F := Ideal) v1 q (0#32) j m kb (ix2 r 0)
    = Ideal.exp (m (ix2 r 0) - k0_pay58 (F := Ideal) v1 q (0#32) j m kb (ix2 r 0)) := by pointwise [k0_pay59]

theorem pay60_at (p : Fin 512) : k0_pay60 (F := Ideal) v1 q (0#32) j m kb (ix2 r p)
    = Ideal.exp (k0_pay57 (F := Ideal) v1 q (0#32) j kb (ix2 r p) - k0_pay58 (F := Ideal) v1 q (0#32) j m kb (ix2 r 0)) := by
  pointwise [k0_pay60]

theorem pay61_at : k0_pay61 (F := Ideal) v1 q (0#32) j m e kb (ix2 r 0)
    = e (ix2 r 0) * k0_pay59 (F := Ideal) v1 q (0#32) j m kb (ix2 r 0)
      + ∑ p : Fin 512, k0_pay60 (F := Ideal) v1 q (0#32) j m kb (ix2 r p) := by pointwise [k0_pay61]

theorem pay62_at : k0_pay62 (F := Ideal) v1 q (0#32) j m acc kb vs vb (ix2 r d)
    = acc (ix2 r d) * k0_pay59 (F := Ideal) v1 q (0#32) j m kb (ix2 r 0)
      + ∑ p : Fin 512, k0_pay60 (F := Ideal) v1 q (0#32) j m kb (ix2 r p) * vs (ix4 0 0 0 p) * vb (ix2 p d) := by
  pointwise [k0_pay62]

end Block

section Rows

variable (sn a sc w : ℕ → EReal)

/-- After the new keys: the row's maximum, denominator and weighted sum. -/
theorem row_init (q : Vec Ideal S256x128 .bf16) (kn vn : Vec Ideal S1x1x224x128 .bf16) (mk : Vec Ideal S256x224 .f32)
    (r : Fin 256) (d : Fin 128) (hs : ∀ u : Fin 224, k0_pay2 q kn mk (ix2 r u) = sn u.val)
    (ha : ∀ u : Fin 224, vn (ix4 0 0 u d) = a u.val) :
    k0_pay3 q kn mk (ix2 r 0) = M 224 512 sn sc 0 ∧ k0_pay5 q kn mk (ix2 r 0) = D 224 512 sn sc 0
      ∧ k0_pay6 q kn mk vn (ix2 r d) = A 224 512 sn a sc w 0 := by
  have h3 : k0_pay3 q kn mk (ix2 r 0) = M 224 512 sn sc 0 := by
    pointwise [k0_pay3]
    simp only [hs]
    rw [ofBits_negInf, fold_range 224 sn, M_zero]
  have h4 : ∀ u : Fin 224, k0_pay4 q kn mk (ix2 r u) = Ideal.exp (sn u.val - M 224 512 sn sc 0) := fun u => by
    pointwise [k0_pay4]
    rw [h3, hs]
  refine ⟨h3, ?_, ?_⟩
  · pointwise [k0_pay5]
    simp only [h4]
    unfold D
    rw [Fin.sum_univ_eq_sum_range (fun u => Ideal.exp (sn u - M 224 512 sn sc 0)) 224]
    simp
  · pointwise [k0_pay6]
    simp only [h4, ha]
    unfold A
    rw [Fin.sum_univ_eq_sum_range (fun u => Ideal.exp (sn u - M 224 512 sn sc 0) * a u) 224]
    simp

variable (h0 : sn 0 ≠ ⊥) (hsn : ∀ u, sn u ≠ ⊤) (hsc : ∀ p, sc p ≠ ⊤)

include h0 hsn hsc in
/-- After one more block. -/
theorem row_step (v1 : BitVec 32) (q : Vec Ideal S256x128 .bf16) (j : Fin (k0_t2_loop v1).trips) (kb vb : Vec Ideal S512x128 .bf16)
    (vs : Vec Ideal S1x1x1x512 .f32) (m e : FVec Ideal S256x1 .f32) (acc : FVec Ideal S256x128 .f32) (r : Fin 256) (d : Fin 128)
    (hs : ∀ p : Fin 512, k0_pay57 (F := Ideal) v1 q (0#32) j kb (ix2 r p) = sc (512 * j.val + p.val))
    (hw : ∀ p : Fin 512, vs (ix4 0 0 0 p) * vb (ix2 p d) = w (512 * j.val + p.val))
    (hm : m (ix2 r 0) = M 224 512 sn sc j.val) (he : e (ix2 r 0) = D 224 512 sn sc j.val)
    (hacc : acc (ix2 r d) = A 224 512 sn a sc w j.val) :
    k0_pay58 (F := Ideal) v1 q (0#32) j m kb (ix2 r 0) = M 224 512 sn sc (j.val + 1)
      ∧ k0_pay61 (F := Ideal) v1 q (0#32) j m e kb (ix2 r 0) = D 224 512 sn sc (j.val + 1)
      ∧ k0_pay62 (F := Ideal) v1 q (0#32) j m acc kb vs vb (ix2 r d) = A 224 512 sn a sc w (j.val + 1) := by
  have h58 : k0_pay58 (F := Ideal) v1 q (0#32) j m kb (ix2 r 0) = M 224 512 sn sc (j.val + 1) := by
    rw [pay58_at, ofBits_negInf, hm, M_succ, ← fold_range 512 (fun k => sc (512 * j.val + k))]
    simp only [hs]
  have h59 : k0_pay59 (F := Ideal) v1 q (0#32) j m kb (ix2 r 0)
      = Ideal.exp (M 224 512 sn sc j.val - M 224 512 sn sc (j.val + 1)) := by rw [pay59_at, h58, hm]
  have h60 : ∀ p : Fin 512, k0_pay60 (F := Ideal) v1 q (0#32) j m kb (ix2 r p)
      = Ideal.exp (sc (512 * j.val + p.val) - M 224 512 sn sc (j.val + 1)) := fun p => by rw [pay60_at, h58, hs]
  refine ⟨h58, ?_, ?_⟩
  · rw [pay61_at, h59, he, D_succ 224 512 sn sc (by decide) h0 hsn hsc]
    congr 1
    rw [← Fin.sum_univ_eq_sum_range]
    exact Finset.sum_congr rfl fun p _ => h60 p
  · rw [pay62_at, h59, hacc, A_succ 224 512 sn a sc w (by decide) h0 hsn hsc]
    congr 1
    rw [← Fin.sum_univ_eq_sum_range (fun k => Ideal.exp (sc (512 * j.val + k) - M 224 512 sn sc (j.val + 1)) * w (512 * j.val + k)) 512]
    exact Finset.sum_congr rfl fun p _ => by rw [h60 p, mul_assoc, hw p]

/-- The division at the end. -/
theorem pay69_at (e : FVec Ideal S256x1 .f32) (acc : FVec Ideal S256x128 .f32) (r : Fin 256) (d : Fin 128) :
    k0_pay69 (F := Ideal) e acc (ix2 r d) = Ideal.div (acc (ix2 r d)) (e (ix2 r 0)) := by
  pointwise [k0_pay69]

end Rows

end Cert.KernelIdeal.Gen

end
-- ==== Proof.KernelIdealScratch.lean ====
/- What the kernel's scratch buffers hold after its first stores, as functions of the blocks the point reads: the queries
   of the eight heads one below the other, each padded with zero rows, and the cached keys and values as reals. -/
module

public import proofs.«01_k».proof.Proof.KernelIdealFrame
public import proofs.«01_k».proof.Proof.KernelIdealPay
public import Idealize.ShloMosaic.Lib.WholeRead
public import Idealize.ShloMosaic.Lib.Pipeline.ValueKit.Tiles

@[expose] public section

set_option maxRecDepth 16384

noncomputable section

namespace Cert.KernelIdeal.Gen

open Idealize.ShloMosaic Idealize.ShloMosaic.TcCoe Idealize.ShloMosaic.Tactic Cert.Softmax

/-- Row `224 g + t` of the queries is head `g`'s row `t`, or zero from row 211 on. -/
def qrow (x0 : Vec Ideal S1x211x1024 .bf16) (y : S1792x128.Idx) : EReal :=
  if h : (y 0).val % 224 < 211 then
    x0 (ix3 0 ⟨(y 0).val % 224, h⟩ ⟨128 * ((y 0).val / 224) + (y 1).val, by
      have h0 : (y 0).val < 1792 := (y 0).isLt
      have h1 : (y 1).val < 128 := (y 1).isLt
      omega⟩)
  else 0

/-- A cached key, scaled by its block's scales. -/
def krow (x3 : Vec Ideal S1x1x2048x128 .i8) (x4 : Vec Ideal S1x1x16x128 .f32) (y : S2048x128.Idx) : EReal :=
  FloatOps.sitofp (F := Ideal) .f32 (x3 (ix4 0 0 (y 0) (y 1)))
    * x4 (ix4 0 0 ⟨(y 0).val / 128, by have h0 : (y 0).val < 2048 := (y 0).isLt; omega⟩ (y 1))

/-- A cached value. -/
def vrow (x5 : Vec Ideal S1x1x2048x128 .i8) (y : S2048x128.Idx) : EReal :=
  FloatOps.sitofp (F := Ideal) .f32 (x5 (ix4 0 0 (y 0) (y 1)))

theorem pay7_at (x : Vec Ideal S1x211x128 .bf16) (t : Fin 224) (d : Fin 128) :
    k0_pay7 x (ix2 t d) = if h : t.val < 211 then x (ix3 0 ⟨t.val, h⟩ d) else 0 := by
  pointwise [k0_pay7]
  have e : IntOp.cmpi .slt (BitVec.ofNat 32 t.val) 211#32 = BitVec.ofBool (decide (t.val < 211)) := by
    revert t; decide +kernel
  rw [e]
  by_cases h : t.val < 211 <;> simp [h, Scalar.select]

theorem pay21_at (x : Vec Ideal S1x1x128x128 .i8) (y : Vec Ideal S1x1x1x128 .f32) (p d : Fin 128) :
    k0_pay21 x y (ix2 p d) = FloatOps.sitofp (F := Ideal) .f32 (x (ix4 0 0 p d)) * y (ix4 0 0 0 d) := by
  pointwise [k0_pay21]

theorem pay20_at (x : Vec Ideal S1x1x128x128 .i8) (p d : Fin 128) :
    k0_pay20 x (ix2 p d) = FloatOps.sitofp (F := Ideal) .f32 (x (ix4 0 0 p d)) := by
  pointwise [k0_pay20]

/-- A one-stride rectangle's element, by coordinate. -/
theorem emb_val {s : Shape} (off size : Fin s.rank → ℕ) (inb) (x : (Rect.unit (s := s) off size inb).shape.Idx) (a : Fin s.rank) :
    ((Rect.unit (s := s) off size inb).emb x a).val = off a + (x a).val := by
  rw [Rect.emb_apply]; show off a + 1 * (x a : ℕ) = _; omega

/-- The piece of head `g`. -/
theorem q_piece (arg3 : Memref sig .tc .vmem S1x211x1024 .bf16) (harg3 : arg3.IsWhole) (x0 : Vec Ideal S1x211x1024 .bf16)
    (g a b : ℕ) (ha : a = 128 * g) (hb : b = 224 * g) (i1) (i2) (x : (Rect.unit (s := S1792x128) ![b, 0] S224x128.size i2).shape.Idx) :
    k0_pay7 (View.readAt (Elt Ideal) arg3.view (Rect.unit (s := S1x211x1024) ![0, 0, a] S1x211x128.size i1).toLoadRect
        (harg3.unread x0)) x
      = qrow x0 ((Rect.unit (s := S1792x128) ![b, 0] S224x128.size i2).emb x) := by
  subst ha hb
  obtain ⟨t, d, rfl⟩ : ∃ (t : Fin 224) (d : Fin 128), x = ix2 t d := ⟨x 0, x 1, by idx_vars x⟩
  rw [pay7_at]
  have e0 := emb_val (s := S1792x128) ![224 * g, 0] S224x128.size i2 (ix2 t d) 0
  have e1 := emb_val (s := S1792x128) ![224 * g, 0] S224x128.size i2 (ix2 t d) 1
  change _ = 224 * g + t.val at e0
  change _ = 0 + d.val at e1
  have hm : (224 * g + t.val) % 224 = t.val := by have := t.isLt; omega
  unfold qrow
  by_cases h : t.val < 211
  · rw [dif_pos h, dif_pos (by rw [e0, hm]; exact h), Memref.IsWhole.readAt_unread]
    congr 1
    funext c
    apply Fin.ext
    rw [Rect.idx_unit_val]
    fin_cases c
    · rfl
    · show 0 + t.val = _ % 224
      rw [e0, hm, Nat.zero_add]
    · show 128 * g + d.val = 128 * (_ / 224) + _
      rw [e0, e1]; have := t.isLt; omega
  · rw [dif_neg h, dif_neg (by rw [e0, hm]; exact h)]

/-- The piece of key block `n`. -/
theorem k_piece (arg6 : Memref sig .tc .vmem S1x1x2048x128 .i8) (harg6 : arg6.IsWhole) (arg7 : Memref sig .tc .vmem S1x1x16x128 .f32)
    (harg7 : arg7.IsWhole) (x3 : Vec Ideal S1x1x2048x128 .i8) (x4 : Vec Ideal S1x1x16x128 .f32)
    (n b : ℕ) (hb : b = 128 * n) (i1) (i2) (i3) (x : (Rect.unit (s := S2048x128) ![b, 0] S128x128.size i3).shape.Idx) :
    k0_pay21 (View.readAt (Elt Ideal) arg6.view (Rect.unit (s := S1x1x2048x128) ![0, 0, b, 0] S1x1x128x128.size i1).toLoadRect (harg6.unread x3))
        (View.readAt (Elt Ideal) arg7.view (Rect.unit (s := S1x1x16x128) ![0, 0, n, 0] S1x1x1x128.size i2).toLoadRect (harg7.unread x4)) x
      = krow x3 x4 ((Rect.unit (s := S2048x128) ![b, 0] S128x128.size i3).emb x) := by
  subst hb
  obtain ⟨p, d, rfl⟩ : ∃ (p : Fin 128) (d : Fin 128), x = ix2 p d := ⟨x 0, x 1, by idx_vars x⟩
  rw [pay21_at]
  have e0 := emb_val (s := S2048x128) ![128 * n, 0] S128x128.size i3 (ix2 p d) 0
  have e1 := emb_val (s := S2048x128) ![128 * n, 0] S128x128.size i3 (ix2 p d) 1
  change _ = 128 * n + p.val at e0
  change _ = 0 + d.val at e1
  unfold krow
  rw [Memref.IsWhole.readAt_unread, Memref.IsWhole.readAt_unread]
  congr 2
  · congr 1
    funext c; apply Fin.ext; rw [Rect.idx_unit_val]
    fin_cases c
    · rfl
    · rfl
    · exact e0.symm
    · exact e1.symm
  · funext c; apply Fin.ext; rw [Rect.idx_unit_val]
    fin_cases c
    · rfl
    · rfl
    · show n + 0 = _ / 128
      rw [e0]; have := p.isLt; omega
    · exact e1.symm

/-- The piece of value block `n`. -/
theorem v_piece (arg8 : Memref sig .tc .vmem S1x1x2048x128 .i8) (harg8 : arg8.IsWhole) (x5 : Vec Ideal S1x1x2048x128 .i8)
    (b : ℕ) (i1) (i3) (x : (Rect.unit (s := S2048x128) ![b, 0] S128x128.size i3).shape.Idx) :
    k0_pay20 (View.readAt (Elt Ideal) arg8.view (Rect.unit (s := S1x1x2048x128) ![0, 0, b, 0] S1x1x128x128.size i1).toLoadRect (harg8.unread x5)) x
      = vrow x5 ((Rect.unit (s := S2048x128) ![b, 0] S128x128.size i3).emb x) := by
  obtain ⟨p, d, rfl⟩ : ∃ (p : Fin 128) (d : Fin 128), x = ix2 p d := ⟨x 0, x 1, by idx_vars x⟩
  rw [pay20_at]
  have e0 := emb_val (s := S2048x128) ![b, 0] S128x128.size i3 (ix2 p d) 0
  have e1 := emb_val (s := S2048x128) ![b, 0] S128x128.size i3 (ix2 p d) 1
  change _ = b + p.val at e0
  change _ = 0 + d.val at e1
  unfold vrow
  rw [Memref.IsWhole.readAt_unread]
  congr 2
  funext c; apply Fin.ext; rw [Rect.idx_unit_val]
  fin_cases c
  · rfl
  · rfl
  · exact e0.symm
  · exact e1.symm

variable (c : Dev nD)

/-- The query scratch. -/
theorem q_scratch (v : View sig .tc .vmem S1792x128 .bf16) (arg3 : Memref sig .tc .vmem S1x211x1024 .bf16) (harg3 : arg3.IsWhole)
    (x0 : Vec Ideal S1x211x1024 .bf16) (y : S1792x128.Idx) :
    v.read (Elt Ideal) (v.writes (Elt Ideal) v.junk (kernelRun0_A.sl.HS0_8 c arg3 harg3 x0)) y = qrow x0 y := by
  refine View.read_writes_apply_of_pieces (Val := Elt Ideal) (e := .bf16) v v.junk (qrow x0) _ ?_ y
    (View.cover_of_tiledL (kernelRun0_A.sl.HS0_8 c arg3 harg3 x0) S224x128.size (by sl_kernel_rfl) y)
  unfold kernelRun0_A.sl.HS0_8
  simp only [List.forall_mem_cons]
  exact ⟨q_piece arg3 harg3 x0 7 _ _ rfl rfl _ _, q_piece arg3 harg3 x0 6 _ _ rfl rfl _ _, q_piece arg3 harg3 x0 5 _ _ rfl rfl _ _, q_piece arg3 harg3 x0 4 _ _ rfl rfl _ _, q_piece arg3 harg3 x0 3 _ _ rfl rfl _ _, q_piece arg3 harg3 x0 2 _ _ rfl rfl _ _, q_piece arg3 harg3 x0 1 _ _ rfl rfl _ _, q_piece arg3 harg3 x0 0 _ _ rfl rfl _ _, fun p hp => absurd hp List.not_mem_nil⟩

/-- The key scratch. -/
theorem k_scratch (v : View sig .tc .vmem S2048x128 .bf16) (arg6 : Memref sig .tc .vmem S1x1x2048x128 .i8) (harg6 : arg6.IsWhole)
    (arg7 : Memref sig .tc .vmem S1x1x16x128 .f32) (harg7 : arg7.IsWhole) (x3 : Vec Ideal S1x1x2048x128 .i8)
    (x4 : Vec Ideal S1x1x16x128 .f32) (y : S2048x128.Idx) :
    v.read (Elt Ideal) (v.writes (Elt Ideal) v.junk (kernelRun0_A.sl.HS1_16 c arg6 harg6 arg7 harg7 x3 x4)) y = krow x3 x4 y := by
  refine View.read_writes_apply_of_pieces (Val := Elt Ideal) (e := .bf16) v v.junk (krow x3 x4) _ ?_ y
    (View.cover_of_tiledL (kernelRun0_A.sl.HS1_16 c arg6 harg6 arg7 harg7 x3 x4) S128x128.size (by sl_kernel_rfl) y)
  unfold kernelRun0_A.sl.HS1_16
  simp only [List.forall_mem_cons]
  exact ⟨k_piece arg6 harg6 arg7 harg7 x3 x4 15 _ rfl _ _ _,
      k_piece arg6 harg6 arg7 harg7 x3 x4 14 _ rfl _ _ _,
      k_piece arg6 harg6 arg7 harg7 x3 x4 13 _ rfl _ _ _,
      k_piece arg6 harg6 arg7 harg7 x3 x4 12 _ rfl _ _ _,
      k_piece arg6 harg6 arg7 harg7 x3 x4 11 _ rfl _ _ _,
      k_piece arg6 harg6 arg7 harg7 x3 x4 10 _ rfl _ _ _,
      k_piece arg6 harg6 arg7 harg7 x3 x4 9 _ rfl _ _ _,
      k_piece arg6 harg6 arg7 harg7 x3 x4 8 _ rfl _ _ _,
      k_piece arg6 harg6 arg7 harg7 x3 x4 7 _ rfl _ _ _,
      k_piece arg6 harg6 arg7 harg7 x3 x4 6 _ rfl _ _ _,
      k_piece arg6 harg6 arg7 harg7 x3 x4 5 _ rfl _ _ _,
      k_piece arg6 harg6 arg7 harg7 x3 x4 4 _ rfl _ _ _,
      k_piece arg6 harg6 arg7 harg7 x3 x4 3 _ rfl _ _ _,
      k_piece arg6 harg6 arg7 harg7 x3 x4 2 _ rfl _ _ _,
      k_piece arg6 harg6 arg7 harg7 x3 x4 1 _ rfl _ _ _,
      k_piece arg6 harg6 arg7 harg7 x3 x4 0 _ rfl _ _ _, fun p hp => absurd hp List.not_mem_nil⟩

/-- The value scratch. -/
theorem v_scratch (v : View sig .tc .vmem S2048x128 .bf16) (arg8 : Memref sig .tc .vmem S1x1x2048x128 .i8) (harg8 : arg8.IsWhole)
    (x5 : Vec Ideal S1x1x2048x128 .i8) (y : S2048x128.Idx) :
    v.read (Elt Ideal) (v.writes (Elt Ideal) v.junk (kernelRun0_A.sl.HS2_16 c arg8 harg8 x5)) y = vrow x5 y := by
  refine View.read_writes_apply_of_pieces (Val := Elt Ideal) (e := .bf16) v v.junk (vrow x5) _ ?_ y
    (View.cover_of_tiledL (kernelRun0_A.sl.HS2_16 c arg8 harg8 x5) S128x128.size (by sl_kernel_rfl) y)
  unfold kernelRun0_A.sl.HS2_16
  simp only [List.forall_mem_cons]
  exact ⟨v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, v_piece arg8 harg8 x5 _ _ _, fun p hp => absurd hp List.not_mem_nil⟩

end Cert.KernelIdeal.Gen

end
-- ==== Proof.KernelIdealTile.lean ====
/- One tile of 256 query rows: what the kernel's two loops leave in the output scratch, row by row, as the blocked softmax
   of Softmax.lean over the blocks the point reads. -/
module

public import proofs.«01_k».proof.Proof.KernelIdealScratch

@[expose] public section

set_option maxRecDepth 16384

noncomputable section

namespace Cert.KernelIdeal.Gen

open Idealize.ShloMosaic Idealize.ShloMosaic.TcCoe Idealize.ShloMosaic.Tactic Cert.Softmax

/-! ## A row's scores and weights, of the point's blocks -/

section Scores

variable (x0 : Vec Ideal S1x211x1024 .bf16) (x1 x2 : Vec Ideal S1x1x224x128 .bf16) (x3 x5 : Vec Ideal S1x1x2048x128 .i8)
  (x4 : Vec Ideal S1x1x16x128 .f32) (x6 : Vec Ideal S1x1x1x2048 .f32) (x7 : Vec Ideal S1792x224 .f32) (v : BitVec 32)

/-- Row `R`'s score against the new key `u`. -/
def scoreNew (R : Fin 1792) (u : ℕ) : EReal :=
  if h : u < 224 then
    (∑ x : Fin 128, qrow x0 (ix2 R x) * x1 (ix4 0 0 ⟨u, h⟩ x)) * scale + if (0 : EReal) < x7 (ix2 R ⟨u, h⟩) then 0 else ⊥
  else ⊥

/-- The new key's weight in column `d`. -/
def weightNew (d : Fin 128) (u : ℕ) : EReal := if h : u < 224 then x2 (ix4 0 0 ⟨u, h⟩ d) else 0

/-- Row `R`'s score against the cached key `p`. -/
def scoreOld (R : Fin 1792) (p : ℕ) : EReal :=
  if h : p < 2048 then
    if (p : ℤ) < v.toInt then (∑ x : Fin 128, qrow x0 (ix2 R x) * krow x3 x4 (ix2 ⟨p, h⟩ x)) * scale else ⊥
  else ⊥

/-- The cached key's weight in column `d`. -/
def weightOld (d : Fin 128) (p : ℕ) : EReal :=
  if h : p < 2048 then x6 (ix4 0 0 0 ⟨p, h⟩) * vrow x5 (ix2 ⟨p, h⟩ d) else 0

/-- The number of blocks of cached keys taken. -/
def blocks : ℕ := ((v.toInt + 511) / 512).toNat

/-- What the output scratch holds in row `R`, column `d`. -/
def rowOut (y : S1792x128.Idx) : EReal :=
  Ideal.div (A 224 512 (scoreNew x0 x1 x7 (y 0)) (weightNew x2 (y 1)) (scoreOld x0 x3 x4 v (y 0)) (weightOld x5 x6 (y 1)) (blocks v))
    (D 224 512 (scoreNew x0 x1 x7 (y 0)) (scoreOld x0 x3 x4 v (y 0)) (blocks v))

/-- What the softmax's algebra asks of the scores: none is plus infinity and the first new key's is finite. -/
structure Finite : Prop where
  first : ∀ R, scoreNew x0 x1 x7 R 0 ≠ ⊥
  new : ∀ R u, scoreNew x0 x1 x7 R u ≠ ⊤
  old : ∀ R p, scoreOld x0 x3 x4 v R p ≠ ⊤

end Scores

/-- An element of a one-stride load, by coordinate, at the offset's value. -/
theorem idx_val {s : Shape} (off off' size : Fin s.rank → ℕ) (inb) (x : (Rect.unit (s := s) off size inb).shape.Idx) (a : Fin s.rank)
    (h : off = off') : ((Rect.unit (s := s) off size inb).toLoadRect.idx x a).val = off' a + (x a).val := by
  subst h; exact Rect.idx_unit_val _ _ _ _ _

section Tile

variable (𝒱 : Variants) (c : Dev nD) (bd : Option 𝒱.V) (i : grid0.Coords)
  (arg2 : Memref sig .tc .smem S12 .i32) (harg2 : arg2.IsWhole)
  (arg3 : Memref sig .tc .vmem S1x211x1024 .bf16) (harg3 : arg3.IsWhole)
  (arg4 : Memref sig .tc .vmem S1x1x224x128 .bf16) (harg4 : arg4.IsWhole)
  (arg5 : Memref sig .tc .vmem S1x1x224x128 .bf16) (harg5 : arg5.IsWhole)
  (arg6 : Memref sig .tc .vmem S1x1x2048x128 .i8) (harg6 : arg6.IsWhole)
  (arg7 : Memref sig .tc .vmem S1x1x16x128 .f32) (harg7 : arg7.IsWhole)
  (arg8 : Memref sig .tc .vmem S1x1x2048x128 .i8) (harg8 : arg8.IsWhole)
  (arg9 : Memref sig .tc .vmem S1x1x1x2048 .f32) (harg9 : arg9.IsWhole)
  (arg10 : Memref sig .tc .vmem S1792x224 .f32) (harg10 : arg10.IsWhole)
  (arg11 : Memref sig .tc .vmem S1x211x1024 .bf16) (harg11 : arg11.IsWhole)
  (arg12 : Memref sig .tc .vmem S1792x128 .bf16) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S1792x128 .bf16) (harg15 : arg15.IsWhole)
  (v1 : BitVec 32) (k0_hw1 : k0_chk1 v1) (v363 v366 : FVec Ideal S128x128 .f32) (v380 : BitVec 32)
  (x0 : Vec Ideal S1x211x1024 .bf16) (x1 x2 : Vec Ideal S1x1x224x128 .bf16) (x3 x5 : Vec Ideal S1x1x2048x128 .i8)
  (x4 : Vec Ideal S1x1x16x128 .f32) (x6 : Vec Ideal S1x1x1x2048 .f32) (x7 : Vec Ideal S1792x224 .f32)
  (X4 : arg4.view.ty.Contents (Elt Ideal)) (X5 : arg5.view.ty.Contents (Elt Ideal)) (X9 : arg9.view.ty.Contents (Elt Ideal))
  (X10 : arg10.view.ty.Contents (Elt Ideal)) (X12 : arg12.view.ty.Contents (Elt Ideal))
  (X13 : arg13.view.ty.Contents (Elt Ideal)) (X14 : arg14.view.ty.Contents (Elt Ideal))
  (h4 : ∀ y, arg4.view.read (Elt Ideal) X4 y = x1 y) (h5 : ∀ y, arg5.view.read (Elt Ideal) X5 y = x2 y)
  (h9 : ∀ y, arg9.view.read (Elt Ideal) X9 y = x6 y) (h10 : ∀ y, arg10.view.read (Elt Ideal) X10 y = x7 y)
  (h12 : ∀ y, arg12.view.read (Elt Ideal) X12 y = qrow x0 y) (h13 : ∀ y, arg13.view.read (Elt Ideal) X13 y = krow x3 x4 y)
  (h14 : ∀ y, arg14.view.read (Elt Ideal) X14 y = vrow x5 y)
  (hv : v1.toInt ≤ 2048) (hF : Finite x0 x1 x3 x4 x7 v1)

/-- One block of cached keys, as the trip's yield spells it. -/
theorem tripR_eq (q : Vec Ideal S256x128 .bf16) (j : Fin (k0_t2_loop v1).trips) (prev) :
    tripR_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 q (0#32) X9 X13 X14 j prev
      = (k0_pay58 (F := Ideal) v1 q (0#32) j prev.1 (arg13.view.readAt (Elt Ideal) (Rect.unit (s := S2048x128) (k0_off4 v1 j) S512x128.size (k0_hw1.2.2.1 j)).toLoadRect X13),
        k0_pay61 (F := Ideal) v1 q (0#32) j prev.1 prev.2.1 (arg13.view.readAt (Elt Ideal) (Rect.unit (s := S2048x128) (k0_off4 v1 j) S512x128.size (k0_hw1.2.2.1 j)).toLoadRect X13),
        k0_pay62 (F := Ideal) v1 q (0#32) j prev.1 prev.2.2 (arg13.view.readAt (Elt Ideal) (Rect.unit (s := S2048x128) (k0_off4 v1 j) S512x128.size (k0_hw1.2.2.1 j)).toLoadRect X13)
          (arg9.view.readAt (Elt Ideal) (Rect.unit (s := S1x1x1x2048) (k0_off5 v1 j) S1x1x1x512.size (k0_hw1.2.2.2.1 j)).toLoadRect X9)
          (arg14.view.readAt (Elt Ideal) (Rect.unit (s := S2048x128) (k0_off4 v1 j) S512x128.size (k0_hw1.2.2.1 j)).toLoadRect X14)) := by
  unfold tripR_k0_t2
  dsimp only
  unfold trip_k0_t2
  rfl

include h9 h13 h14 hv hF in
/-- The carried row after `n` blocks. -/
theorem carried (q : Vec Ideal S256x128 .bf16) (R : Fin 1792) (r : Fin 256) (d : Fin 128)
    (hq : ∀ x : Fin 128, q (ix2 r x) = qrow x0 (ix2 R x)) (init : FVec Ideal S256x1 .f32 × FVec Ideal S256x1 .f32 × FVec Ideal S256x128 .f32)
    (hi : init.1 (ix2 r 0) = M 224 512 (scoreNew x0 x1 x7 R) (scoreOld x0 x3 x4 v1 R) 0
      ∧ init.2.1 (ix2 r 0) = D 224 512 (scoreNew x0 x1 x7 R) (scoreOld x0 x3 x4 v1 R) 0
      ∧ init.2.2 (ix2 r d) = A 224 512 (scoreNew x0 x1 x7 R) (weightNew x2 d) (scoreOld x0 x3 x4 v1 R) (weightOld x5 x6 d) 0) :
    ∀ n : ℕ, n ≤ (k0_t2_loop v1).trips →
      let s := st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 q (0#32) X9 X13 X14 init n
      s.1 (ix2 r 0) = M 224 512 (scoreNew x0 x1 x7 R) (scoreOld x0 x3 x4 v1 R) n
        ∧ s.2.1 (ix2 r 0) = D 224 512 (scoreNew x0 x1 x7 R) (scoreOld x0 x3 x4 v1 R) n
        ∧ s.2.2 (ix2 r d) = A 224 512 (scoreNew x0 x1 x7 R) (weightNew x2 d) (scoreOld x0 x3 x4 v1 R) (weightOld x5 x6 d) n
  | 0, _ => hi
  | n + 1, hn => by
    have ih := carried q R r d hq init hi n (by omega)
    have h4' : n < 4 := lt_of_lt_of_le (by omega : n < (k0_t2_loop v1).trips) (trips_t2_le v1 hv)
    intro s
    have e : s = _ := st_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 q (0#32) X9 X13 X14 init ⟨n, by omega⟩
    rw [tripR_eq] at e
    rw [e]
    refine row_step _ _ _ _ (hF.first R) (hF.new R) (hF.old R) v1 q ⟨n, by omega⟩ _ _ _ _ _ _ r d ?_ ?_ ih.1 ih.2.1 ih.2.2
    · intro p
      rw [pay57_at v1 q ⟨n, by omega⟩ h4']
      unfold scoreOld
      rw [dif_pos (show 512 * n + p.val < 2048 by have := p.isLt; omega)]
      refine congrArg (fun z : EReal => if ((512 * n + p.val : ℕ) : ℤ) < v1.toInt then z * scale else ⊥)
        (Finset.sum_congr rfl fun x _ => ?_)
      rw [hq, View.readAt_apply, h13]
      refine congrArg (fun z => qrow x0 (ix2 R x) * krow x3 x4 z) ?_
      funext a; apply Fin.ext; refine (idx_val (s := S2048x128) _ _ _ _ _ _ (off4_eq v1 _ h4')).trans ?_
      fin_cases a
      · rfl
      · exact Nat.zero_add _
    · intro p
      unfold weightOld
      rw [dif_pos (show 512 * n + p.val < 2048 by have := p.isLt; omega), View.readAt_apply, h9, View.readAt_apply, h14]
      congr 2
      · funext a; apply Fin.ext; refine (idx_val (s := S1x1x1x2048) _ _ _ _ _ _ (off5_eq v1 _ h4')).trans ?_
        fin_cases a
        · rfl
        · rfl
        · rfl
        · rfl
      · funext a; apply Fin.ext; refine (idx_val (s := S2048x128) _ _ _ _ _ _ (off4_eq v1 _ h4')).trans ?_
        fin_cases a
        · rfl
        · exact Nat.zero_add _

/-- Tile `k`'s first row, of the queries, of the mask and of the output. -/
theorem off2_eq : ∀ k : Fin k0_t1_loop.trips, k0_off2 k = ![256 * k.val, 0] := by decide +kernel
theorem off3_eq : ∀ k : Fin k0_t1_loop.trips, k0_off3 k = ![256 * k.val, 0] := by decide +kernel
theorem off8_eq : ∀ k : Fin k0_t1_loop.trips, k0_off8 k = ![256 * k.val, 0] := by decide +kernel

include h4 h5 h9 h10 h12 h13 h14 hv hF in
/-- A tile's row, from the loads to the division. -/
theorem tile_row (k : Fin k0_t1_loop.trips) (R : Fin 1792) (r : Fin 256) (d : Fin 128) (hR : R.val = 256 * k.val + r.val)
    (v449 : BitVec 32) (n2 n3 : ℕ) (s2 s3 : FVec Ideal S256x1 .f32 × FVec Ideal S256x1 .f32 × FVec Ideal S256x128 .f32)
    (e2 : s2 = st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 (trip_k0_t1.sl.r arg12 X12 k) (0#32) X9 X13 X14
        (trip_k0_t1.sl.r_1 arg4 arg10 arg12 X4 X10 X12 k, trip_k0_t1.sl.r_2 arg4 arg10 arg12 X4 X10 X12 k,
          trip_k0_t1.sl.r_3 arg4 arg5 arg10 arg12 X4 X5 X10 X12 k) n2)
    (e3 : s3 = st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 (trip_k0_t1.sl.r arg12 X12 k) v449 X9 X13 X14 (s2.1, s2.2.1, s2.2.2) n3)
    (h2 : n2 = (k0_t2_loop v1).trips) (h3 : n3 = 0) :
    k0_pay69 (F := Ideal) s3.2.1 s3.2.2 (ix2 r d) = rowOut x0 x1 x2 x3 x5 x4 x6 x7 v1 (ix2 R d) := by
  rw [h3, st_k0_t3_zero] at e3
  rw [h2] at e2
  have hq : ∀ x : Fin 128, trip_k0_t1.sl.r arg12 X12 k (ix2 r x) = qrow x0 (ix2 R x) := fun x => by
    unfold trip_k0_t1.sl.r
    rw [View.readAt_apply, h12]
    refine congrArg (qrow x0) ?_
    funext a; apply Fin.ext; refine (idx_val (s := S1792x128) _ _ _ _ _ _ (off2_eq k)).trans ?_
    fin_cases a
    · exact hR.symm
    · exact Nat.zero_add _
  have hi := row_init (scoreNew x0 x1 x7 R) (weightNew x2 d) (scoreOld x0 x3 x4 v1 R) (weightOld x5 x6 d)
    (trip_k0_t1.sl.r arg12 X12 k)
    (View.readAt (Elt Ideal) arg4.view (Rect.unit (s := S1x1x224x128) ![0, 0, 0, 0] S1x1x224x128.size inb_S1x1x224x128_S1x1x224x128_0_0_0_0).toLoadRect X4)
    (View.readAt (Elt Ideal) arg5.view (Rect.unit (s := S1x1x224x128) ![0, 0, 0, 0] S1x1x224x128.size inb_S1x1x224x128_S1x1x224x128_0_0_0_0).toLoadRect X5)
    (View.readAt (Elt Ideal) arg10.view (Rect.unit (s := S1792x224) (k0_off3 k) S256x224.size (k0_off3_inb k)).toLoadRect X10) r d
    (fun u => by
      rw [pay2_at]
      unfold scoreNew
      rw [dif_pos u.isLt, View.readAt_apply, h10]
      congr 2
      · refine Finset.sum_congr rfl fun x _ => ?_
        rw [hq, View.readAt_apply, h4]
        refine congrArg (fun z => qrow x0 (ix2 R x) * x1 z) ?_
        funext a; apply Fin.ext; refine (idx_val (s := S1x1x224x128) _ _ _ _ _ _ rfl).trans ?_
        fin_cases a <;> exact Nat.zero_add _
      · refine congrArg (fun z => (0 : EReal) < x7 z) ?_
        funext a; apply Fin.ext; refine (idx_val (s := S1792x224) _ _ _ _ _ _ (off3_eq k)).trans ?_
        fin_cases a
        · exact hR.symm
        · exact Nat.zero_add _)
    (fun u => by
      unfold weightNew
      rw [dif_pos u.isLt, View.readAt_apply, h5]
      refine congrArg x2 ?_
      funext a; apply Fin.ext; refine (idx_val (s := S1x1x224x128) _ _ _ _ _ _ rfl).trans ?_
      fin_cases a <;> exact Nat.zero_add _)
  have hc := carried 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 x0 x1 x2 x3 x5 x4 x6 x7 X9 X13 X14 h9 h13 h14 hv hF (trip_k0_t1.sl.r arg12 X12 k) R r d hq
    (trip_k0_t1.sl.r_1 arg4 arg10 arg12 X4 X10 X12 k, trip_k0_t1.sl.r_2 arg4 arg10 arg12 X4 X10 X12 k,
          trip_k0_t1.sl.r_3 arg4 arg5 arg10 arg12 X4 X5 X10 X12 k)
    (by
      unfold trip_k0_t1.sl.r_1 trip_k0_t1.sl.r_2 trip_k0_t1.sl.r_3
      unfold trip_k0_t1.sl.r at hi
      dsimp only
      exact hi) (k0_t2_loop v1).trips (Nat.le_refl _)
  dsimp only at hc
  rw [← e2] at hc
  rw [pay69_at, e3]
  unfold rowOut blocks
  rw [← trips_t2 v1 hv]
  exact congrArg₂ Ideal.div hc.2.2 hc.2.1

include h4 h5 h9 h10 h12 h13 h14 hv hF in
/-- Every piece a tile's trip stores is the rows' values. -/
theorem trip_piece (k : Fin k0_t1_loop.trips) :
    ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X4 X5 X9 X10 X12 X13 X14 k).1, ∀ x : p.1.shape.Idx,
      p.2 x = rowOut x0 x1 x2 x3 x5 x4 x6 x7 v1 (p.1.emb x) := by
  unfold trip_k0_t1
  dsimp only
  intro p hp x
  obtain rfl := List.mem_singleton.mp hp
  obtain ⟨r, d, rfl⟩ : ∃ (r : Fin 256) (d : Fin 128), x = ix2 r d := ⟨x 0, x 1, by idx_vars x⟩
  have hk : k.val < 7 := lt_of_lt_of_le k.isLt (by decide)
  dsimp only
  have h3 : Scf.trips (Scalar.addi (0#32) (Scalar.muli (Scalar.divsi (Scalar.subi (Scalar.divsi (Scalar.addi v1 511#32) 512#32) 0#32) 1#32) 1#32))
      (Scalar.addi (0#32) (Scalar.subi (Scalar.divsi (Scalar.addi v1 511#32) 512#32) 0#32)) 1#32 = 0 := trips_t3 v1
  have h2 : Scf.trips (0#32) (Scalar.addi (0#32) (Scalar.muli (Scalar.divsi (Scalar.subi (Scalar.divsi (Scalar.addi v1 511#32) 512#32) 0#32) 1#32) 1#32)) 1#32
      = (k0_t2_loop v1).trips := rfl
  rw [h3, h2]
  generalize e2 : st_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 (trip_k0_t1.sl.r arg12 X12 k) (0#32) X9 X13 X14
        (trip_k0_t1.sl.r_1 arg4 arg10 arg12 X4 X10 X12 k, trip_k0_t1.sl.r_2 arg4 arg10 arg12 X4 X10 X12 k,
          trip_k0_t1.sl.r_3 arg4 arg5 arg10 arg12 X4 X5 X10 X12 k) (k0_t2_loop v1).trips = s2
  generalize e3 : st_k0_t3 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 (trip_k0_t1.sl.r arg12 X12 k) (trip_k0_t1.sl.v449 v380) X9 X13 X14
    (s2.1, s2.2.1, s2.2.2) 0 = s3
  refine (tile_row 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 x0 x1 x2 x3 x5 x4 x6 x7 X4 X5 X9 X10 X12 X13 X14 h4 h5 h9 h10 h12 h13 h14 hv hF k
    ⟨256 * k.val + r.val, by have := r.isLt; omega⟩ r d rfl _ _ _ s2 s3 e2.symm e3.symm rfl rfl).trans ?_
  refine congrArg (rowOut x0 x1 x2 x3 x5 x4 x6 x7 v1) ?_
  funext a; apply Fin.ext
  refine Eq.trans ?_ (idx_val (s := S1792x128) _ _ _ _ _ _ (off8_eq k)).symm
  fin_cases a
  · rfl
  · exact (Nat.zero_add _).symm

include h4 h5 h9 h10 h12 h13 h14 hv hF in
/-- Every piece of the tiles before `n`. -/
theorem pb_piece : ∀ n : ℕ, n ≤ k0_t1_loop.trips →
    ∀ p ∈ pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X4 X5 X9 X10 X12 X13 X14 n, ∀ x : p.1.shape.Idx,
      p.2 x = rowOut x0 x1 x2 x3 x5 x4 x6 x7 v1 (p.1.emb x)
  | 0, _, p, hp => absurd hp List.not_mem_nil
  | n + 1, hn, p, hp => by
    rw [pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 X4 X5 X9 X10 X12 X13 X14 ⟨n, by omega⟩] at hp
    rcases List.mem_append.mp hp with h | h
    · exact trip_piece 𝒱 c bd i arg2 harg2 arg3 harg3 arg4 harg4 arg5 harg5 arg6 harg6 arg7 harg7 arg8 harg8 arg9 harg9 arg10 harg10 arg11 harg11 arg12 harg12 arg13 harg13 arg14 harg14 arg15 harg15 v1 k0_hw1 v363 v366 v380 x0 x1 x2 x3 x5 x4 x6 x7 X4 X5 X9 X10 X12 X13 X14 h4 h5 h9 h10 h12 h13 h14 hv hF ⟨n, by omega⟩ p h
    · exact pb_piece n (by omega) p h

end Tile

end Cert.KernelIdeal.Gen

end
-- ==== Proof.KernelIdealOut.lean ====
/- What a grid point leaves in the output's buffer: the eight stores copy the output scratch's 211 live rows of each query
   head, so every element is the blocked softmax's row. -/
module

public import proofs.«01_k».proof.Proof.KernelIdealTile
public import proofs.«01_k».proof.Proof.KernelIdealFrame

@[expose] public section

set_option maxRecDepth 16384

noncomputable section

namespace Cert.KernelIdeal.Gen

open Idealize.ShloMosaic Idealize.ShloMosaic.TcCoe Idealize.ShloMosaic.Tactic Cert.Softmax

/-- The output's cast to a one-row batch moves no element. -/
theorem pay70_at (a : Vec Ideal S211x128 .bf16) (r : Fin 211) (d : Fin 128) : k0_pay70 (F := Ideal) a (ix3 0 r d) = a (ix2 r d) := by
  pointwise [k0_pay70]

/-- A load of the output scratch's rows from `o` on, once every piece stored is the rows' values. -/
theorem rows_read (v : View sig .tc .vmem S1792x128 .bf16) (L : List (View.Piece (Elt Ideal) S1792x128 .bf16)) (G : S1792x128.Idx → EReal)
    (hL : ∀ p ∈ L, ∀ x : p.1.shape.Idx, p.2 x = G (p.1.emb x)) (hc : ∀ y : S1792x128.Idx, ∃ p ∈ L, y ∈ p.1.set)
    (o : ℕ) (inb) (r : Fin 211) (d : Fin 128) (ho : o + r.val < 1792) :
    v.readCov L (Rect.unit (s := S1792x128) ![o, 0] S211x128.size inb).toLoadRect (ix2 r d) = G (ix2 ⟨o + r.val, ho⟩ d) := by
  unfold View.readCov
  rw [View.readAt_apply, View.read_writes_apply_of_pieces (Val := Elt Ideal) (e := .bf16) v _ G L hL _ (hc _)]
  refine congrArg G ?_
  funext a; apply Fin.ext; refine (idx_val (s := S1792x128) _ _ _ _ _ _ rfl).trans ?_
  fin_cases a
  · rfl
  · exact Nat.zero_add _

/-- The output scratch's row and column of an element of the output's block. -/
def outRow (y : S1x211x1024.Idx) : S1792x128.Idx :=
  ix2 ⟨224 * ((y 2).val / 128) + (y 1).val, by have h1 : (y 1).val < 211 := (y 1).isLt; have h2 : (y 2).val < 1024 := (y 2).isLt; show _ < 1792; omega⟩
    ⟨(y 2).val % 128, by show _ < 128; omega⟩

/-- Query head `g`'s store, element by element. -/
theorem outRow_emb (g : ℕ) (hg : g < 8) (inb) (r : Fin 211) (d : Fin 128) :
    outRow ((Rect.unit (s := S1x211x1024) ![0, 0, 128 * g] S1x211x128.size inb).emb (ix3 0 r d))
      = ix2 ⟨224 * g + r.val, by have := r.isLt; omega⟩ d := by
  have hd : d.val < 128 := d.isLt
  have e1 : (((Rect.unit (s := S1x211x1024) ![0, 0, 128 * g] S1x211x128.size inb).emb (ix3 0 r d)) 1).val = r.val :=
    (idx_val (s := S1x211x1024) _ _ _ inb (ix3 0 r d) 1 rfl).trans (Nat.zero_add _)
  have e2 : (((Rect.unit (s := S1x211x1024) ![0, 0, 128 * g] S1x211x128.size inb).emb (ix3 0 r d)) 2).val = 128 * g + d.val :=
    idx_val (s := S1x211x1024) _ _ _ inb (ix3 0 r d) 2 rfl
  unfold outRow
  funext a; apply Fin.ext
  fin_cases a
  · show 224 * (_ / 128) + _ = 224 * g + r.val
    rw [e1, e2]; omega
  · show _ % 128 = d.val
    rw [e2]; omega

/-- An element of one query head's store. -/
theorem ix3_of (x : S1x211x128.Idx) : ∃ (r : Fin 211) (d : Fin 128), x = ix3 0 r d :=
  ⟨x 1, x 2, by funext a; match a with | 0 => exact Subsingleton.elim (α := Fin 1) _ _ | 1 => rfl | 2 => rfl⟩

/-- Query head `g`'s store, once every piece of the output scratch is the rows' values. -/
theorem head_piece (g : ℕ) (hg : g < 8) (v : View sig .tc .vmem S1792x128 .bf16) (L : List (View.Piece (Elt Ideal) S1792x128 .bf16))
    (G : S1792x128.Idx → EReal) (inb inb') (hL : ∀ p ∈ L, ∀ x : p.1.shape.Idx, p.2 x = G (p.1.emb x))
    (hc : ∀ y : S1792x128.Idx, ∃ p ∈ L, y ∈ p.1.set) (x : S1x211x128.Idx) :
    k0_pay70 (F := Ideal) (v.readCov L (Rect.unit (s := S1792x128) ![224 * g, 0] S211x128.size inb).toLoadRect) x
      = G (outRow ((Rect.unit (s := S1x211x1024) ![0, 0, 128 * g] S1x211x128.size inb').emb x)) := by
  obtain ⟨r, d, rfl⟩ := ix3_of x
  rw [outRow_emb g hg, pay70_at]
  exact rows_read v L G hL hc (224 * g) inb r d _

section Out

variable (c : Dev nD) (i : grid0.Coords)
  (arg3 : Memref sig .tc .vmem S1x211x1024 .bf16) (harg3 : arg3.IsWhole)
  (arg4 : Memref sig .tc .vmem S1x1x224x128 .bf16) (harg4 : arg4.IsWhole)
  (arg5 : Memref sig .tc .vmem S1x1x224x128 .bf16) (harg5 : arg5.IsWhole)
  (arg6 : Memref sig .tc .vmem S1x1x2048x128 .i8) (harg6 : arg6.IsWhole)
  (arg7 : Memref sig .tc .vmem S1x1x16x128 .f32) (harg7 : arg7.IsWhole)
  (arg8 : Memref sig .tc .vmem S1x1x2048x128 .i8) (harg8 : arg8.IsWhole)
  (arg9 : Memref sig .tc .vmem S1x1x1x2048 .f32) (harg9 : arg9.IsWhole)
  (arg10 : Memref sig .tc .vmem S1792x224 .f32) (harg10 : arg10.IsWhole)
  (arg11 : Memref sig .tc .vmem S1x211x1024 .bf16) (harg11 : arg11.IsWhole)
  (arg12 : Memref sig .tc .vmem S1792x128 .bf16) (harg12 : arg12.IsWhole)
  (arg13 : Memref sig .tc .vmem S2048x128 .bf16) (harg13 : arg13.IsWhole)
  (arg14 : Memref sig .tc .vmem S2048x128 .bf16) (harg14 : arg14.IsWhole)
  (arg15 : Memref sig .tc .vmem S1792x128 .bf16) (harg15 : arg15.IsWhole)
  (x0 : Vec Ideal S1x211x1024 .bf16) (x1 x2 : Vec Ideal S1x1x224x128 .bf16) (x3 : Vec Ideal S1x1x2048x128 .i8)
  (x4 : Vec Ideal S1x1x16x128 .f32) (x5 : Vec Ideal S1x1x2048x128 .i8) (x6 : Vec Ideal S1x1x1x2048 .f32) (x7 : Vec Ideal S1792x224 .f32)
  (xt0 : TbBuf0 (F := Ideal) c tbM0_0) (k0_hw1)

/-- The table's word the point reads. -/
def word : BitVec 32 := tbM0_0.view.readAt (Elt Ideal) (Rect.unit (s := S12) (k0_off1 i) S1.size (k0_off1_inb i)).toLoadRect xt0 (Shape.Idx.first (numel1_S1.symm ▸ Nat.one_pos))

variable (hv : (word c i xt0).toInt ≤ 2048) (hF : Finite x0 x1 x3 x4 x7 (word c i xt0))

include hv hF in
/-- The pieces of the output scratch are the rows' values, -/
theorem scratch_piece (v363 v366 v380) (n : ℕ) (hn : n ≤ k0_t1_loop.trips) :
    ∀ p ∈ pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (word c i xt0) k0_hw1 v363 v366 v380
        (harg4.unread x1) (harg5.unread x2) (harg9.unread x6) (harg10.unread x7)
        (arg12.view.writes (Elt Ideal) arg12.view.junk (kernelRun0_A.sl.HS0_8 c arg3 harg3 x0))
        (arg13.view.writes (Elt Ideal) arg13.view.junk (kernelRun0_A.sl.HS1_16 c arg6 harg6 arg7 harg7 x3 x4))
        (arg14.view.writes (Elt Ideal) arg14.view.junk (kernelRun0_A.sl.HS2_16 c arg8 harg8 x5)) n, ∀ x : p.1.shape.Idx,
      p.2 x = rowOut x0 x1 x2 x3 x5 x4 x6 x7 (word c i xt0) (p.1.emb x) :=
  pb_piece Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (word c i xt0) k0_hw1 v363 v366 v380 x0 x1 x2 x3 x5 x4 x6 x7 _ _ _ _ _ _ _
    (fun y => congrFun (harg4.read_unread x1) y) (fun y => congrFun (harg5.read_unread x2) y) (fun y => congrFun (harg9.read_unread x6) y)
    (fun y => congrFun (harg10.read_unread x7) y) (fun y => q_scratch c _ arg3 harg3 x0 y) (fun y => k_scratch c _ arg6 harg6 arg7 harg7 x3 x4 y)
    (fun y => v_scratch c _ arg8 harg8 x5 y) hv hF n hn

/-- and cover it. -/
theorem scratch_cover (v363 v366 v380 X4 X5 X9 X10 X12 X13 X14) (y : S1792x128.Idx) :
    ∃ p ∈ pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (word c i xt0) k0_hw1 v363 v366 v380
        X4 X5 X9 X10 X12 X13 X14 (Scf.trips (0#32) (Scalar.addi 0#32 7#32) 1#32), y ∈ p.1.set :=
  View.cover_of_tiledL (pb_k0_t1 (F := Ideal) Variants.none c none i tbM0_0 htbM0_0 arg3 harg3 arg4 harg4 arg5 harg5 arg6 harg6 arg7 harg7 arg8 harg8 arg9 harg9 arg10 harg10 arg11 harg11 arg12 harg12 arg13 harg13 arg14 harg14 arg15 harg15 (word c i xt0) k0_hw1 v363 v366 v380
        X4 X5 X9 X10 X12 X13 X14 (Scf.trips (0#32) (Scalar.addi 0#32 7#32) 1#32)) S256x128.size (by sl_kernel_rfl) y

include hv hF in
/-- Every store into the output's block is the rows' values. -/
theorem out_piece : ∀ p ∈ (kernelRun0_A (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1).1, ∀ x : p.1.shape.Idx,
    p.2 x = rowOut x0 x1 x2 x3 x5 x4 x6 x7 (word c i xt0) (outRow (p.1.emb x)) := by
  unfold kernelRun0_A
  dsimp only
  intro p hp x
  simp only [List.mem_cons, List.not_mem_nil, or_false] at hp
  rcases hp with rfl | rfl | rfl | rfl | rfl | rfl | rfl | rfl
  · exact head_piece 7 (by decide) _ _ _ inb_S1792x128_S211x128_1568_0 inb_S1x211x1024_S1x211x128_0_0_896 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 6 (by decide) _ _ _ inb_S1792x128_S211x128_1344_0 inb_S1x211x1024_S1x211x128_0_0_768 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 5 (by decide) _ _ _ inb_S1792x128_S211x128_1120_0 inb_S1x211x1024_S1x211x128_0_0_640 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 4 (by decide) _ _ _ inb_S1792x128_S211x128_896_0 inb_S1x211x1024_S1x211x128_0_0_512 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 3 (by decide) _ _ _ inb_S1792x128_S211x128_672_0 inb_S1x211x1024_S1x211x128_0_0_384 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 2 (by decide) _ _ _ inb_S1792x128_S211x128_448_0 inb_S1x211x1024_S1x211x128_0_0_256 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 1 (by decide) _ _ _ inb_S1792x128_S211x128_224_0 inb_S1x211x1024_S1x211x128_0_0_128 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x
  · exact head_piece 0 (by decide) _ _ _ inb_S1792x128_S211x128_0_0 inb_S1x211x1024_S1x211x128_0_0_0 (scratch_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF _ _ _ _ (Nat.le_refl _)) (scratch_cover c i arg3 harg3 arg4 harg4 arg5 harg5 arg6 harg6 arg7 harg7 arg8 harg8 arg9 harg9 arg10 harg10 arg11 harg11 arg12 harg12 arg13 harg13 arg14 harg14 arg15 harg15 xt0 k0_hw1 _ _ _ _ _ _ _ _ _ _) x

include hv hF in
/-- The output's block, element by element. -/
theorem out_at (y : S1x211x1024.Idx) : out0_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 y
    = rowOut x0 x1 x2 x3 x5 x4 x6 x7 (word c i xt0) (outRow y) :=
  View.read_writes_apply_of_pieces (Val := Elt Ideal) (e := .bf16) _ _ (fun y => rowOut x0 x1 x2 x3 x5 x4 x6 x7 (word c i xt0) (outRow y)) _
    (out_piece c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 hv hF) y (cover0_A_8 (F := Ideal) c i arg3 harg3 arg4 harg4 arg5 harg5 arg6 harg6 arg7 harg7 arg8 harg8 arg9 harg9 arg10 harg10 arg11 harg11 arg12 harg12 arg13 harg13 arg14 harg14 arg15 harg15 x0 x1 x2 x3 x4 x5 x6 x7 xt0 k0_hw1 y)

end Out

end Cert.KernelIdeal.Gen

end
-- ==== Proof.KernelIdealBlocks.lean ====
/- The blocks a grid point reads, element by element: point `t` is batch `t / 8` and key head `t % 8`. -/
module

public import proofs.«01_k».proof.Proof.KernelIdealFrame
public import Idealize.ShloMosaic.Lib.Pipeline.ValueKit
public import Idealize.ShloMosaic.Lib.StableHlo.ReadAt

@[expose] public section

set_option maxRecDepth 16384

noncomputable section

namespace Cert.KernelIdeal.Gen

open Idealize.ShloMosaic Idealize.ShloMosaic.TcCoe Idealize.ShloMosaic.Tactic

/-- Every window's block index at a point. -/
theorem index_eq : ∀ t : Fin grid0.N,
    cc0_transform_0 (grid0.coords t) = ![t.val / 8, 0, t.val % 8]
    ∧ cc0_transform_1 (grid0.coords t) = ![t.val / 8, t.val % 8, 0, 0]
    ∧ cc0_transform_2 (grid0.coords t) = ![t.val / 8, t.val % 8, 0, 0]
    ∧ cc0_transform_3 (grid0.coords t) = ![t.val / 8, t.val % 8, 0, 0]
    ∧ cc0_transform_4 (grid0.coords t) = ![t.val / 8, t.val % 8, 0, 0]
    ∧ cc0_transform_5 (grid0.coords t) = ![t.val / 8, t.val % 8, 0, 0]
    ∧ cc0_transform_6 (grid0.coords t) = ![t.val / 8, t.val % 8, 0, 0]
    ∧ cc0_transform_7 (grid0.coords t) = ![0, 0]
    ∧ cc0_transform_8 (grid0.coords t) = ![t.val / 8, 0, t.val % 8] := by decide +kernel

variable (m : (ℓ : Loc nD τ sig) → Buf (Elt Ideal) ℓ)

theorem sitofp_zero : (FloatOps.sitofp (F := Ideal) .bf16 (0#32) : EReal) = 0 := by simp [FloatOps.sitofp]

theorem lt96 (t : Fin grid0.N) : t.val < 96 := t.isLt

theorem iblk0 (hO : Ok m) (c : Dev nD) (t : Fin grid0.N) (y : S1x211x1024.Idx) :
    iblk m hO c 0 t y = V m c main_arg0 (ix3 ⟨t.val / 8, by have := lt96 t; omega⟩ (y 1) ⟨1024 * (t.val % 8) + (y 2).val, by have : (y 2).val < 1024 := (y 2).isLt; omega⟩) := by
  refine congrArg (V m c main_arg0) ?_
  funext a; apply Fin.ext
  refine (Pipeline.Window.rect_emb_val ((cfgM m hO).win 0) t y a).trans ?_
  refine (congrArg (fun f : Fin S1x211x1024.rank → ℕ => f a * S1x211x1024.size a + (y a).val) ((index_eq t).1)).trans ?_
  fin_cases a
  · have : (y 0).val < 1 := (y 0).isLt
    show t.val / 8 * 1 + (y 0).val = t.val / 8; omega
  · exact Nat.zero_add _
  · show t.val % 8 * 1024 + (y 2).val = 1024 * (t.val % 8) + (y 2).val; omega

theorem iblk1 (hO : Ok m) (c : Dev nD) (t : Fin grid0.N) (y : S1x1x224x128.Idx) :
    iblk m hO c 1 t y = V m c main_v1 (ix4 ⟨t.val / 8, by have := lt96 t; omega⟩ ⟨t.val % 8, by omega⟩ (y 2) (y 3)) := by
  refine congrArg (V m c main_v1) ?_
  funext a; apply Fin.ext
  refine (Pipeline.Window.rect_emb_val ((cfgM m hO).win 1) t y a).trans ?_
  refine (congrArg (fun f : Fin S1x1x224x128.rank → ℕ => f a * S1x1x224x128.size a + (y a).val) ((index_eq t).2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk2 (hO : Ok m) (c : Dev nD) (t : Fin grid0.N) (y : S1x1x224x128.Idx) :
    iblk m hO c 2 t y = V m c main_v3 (ix4 ⟨t.val / 8, by have := lt96 t; omega⟩ ⟨t.val % 8, by omega⟩ (y 2) (y 3)) := by
  refine congrArg (V m c main_v3) ?_
  funext a; apply Fin.ext
  refine (Pipeline.Window.rect_emb_val ((cfgM m hO).win 2) t y a).trans ?_
  refine (congrArg (fun f : Fin S1x1x224x128.rank → ℕ => f a * S1x1x224x128.size a + (y a).val) ((index_eq t).2.2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk3 (hO : Ok m) (c : Dev nD) (t : Fin grid0.N) (y : S1x1x2048x128.Idx) :
    iblk m hO c 3 t y = V m c main_v92 (ix4 ⟨t.val / 8, by have := lt96 t; omega⟩ ⟨t.val % 8, by omega⟩ (y 2) (y 3)) := by
  refine congrArg (V m c main_v92) ?_
  funext a; apply Fin.ext
  refine (Pipeline.Window.rect_emb_val ((cfgM m hO).win 3) t y a).trans ?_
  refine (congrArg (fun f : Fin S1x1x2048x128.rank → ℕ => f a * S1x1x2048x128.size a + (y a).val) ((index_eq t).2.2.2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk4 (hO : Ok m) (c : Dev nD) (t : Fin grid0.N) (y : S1x1x16x128.Idx) :
    iblk m hO c 4 t y = V m c main_v93 (ix4 ⟨t.val / 8, by have := lt96 t; omega⟩ ⟨t.val % 8, by omega⟩ (y 2) (y 3)) := by
  refine congrArg (V m c main_v93) ?_
  funext a; apply Fin.ext
  refine (Pipeline.Window.rect_emb_val ((cfgM m hO).win 4) t y a).trans ?_
  refine (congrArg (fun f : Fin S1x1x16x128.rank → ℕ => f a * S1x1x16x128.size a + (y a).val) ((index_eq t).2.2.2.2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk5 (hO : Ok m) (c : Dev nD) (t : Fin grid0.N) (y : S1x1x2048x128.Idx) :
    iblk m hO c 5 t y = V m c main_v94 (ix4 ⟨t.val / 8, by have := lt96 t; omega⟩ ⟨t.val % 8, by omega⟩ (y 2) (y 3)) := by
  refine congrArg (V m c main_v94) ?_
  funext a; apply Fin.ext
  refine (Pipeline.Window.rect_emb_val ((cfgM m hO).win 5) t y a).trans ?_
  refine (congrArg (fun f : Fin S1x1x2048x128.rank → ℕ => f a * S1x1x2048x128.size a + (y a).val) ((index_eq t).2.2.2.2.2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk6 (hO : Ok m) (c : Dev nD) (t : Fin grid0.N) (y : S1x1x1x2048.Idx) :
    iblk m hO c 6 t y = V m c main_v96 (ix4 ⟨t.val / 8, by have := lt96 t; omega⟩ ⟨t.val % 8, by omega⟩ (y 2) (y 3)) := by
  refine congrArg (V m c main_v96) ?_
  funext a; apply Fin.ext
  refine (Pipeline.Window.rect_emb_val ((cfgM m hO).win 6) t y a).trans ?_
  refine (congrArg (fun f : Fin S1x1x1x2048.rank → ℕ => f a * S1x1x1x2048.size a + (y a).val) ((index_eq t).2.2.2.2.2.2.1)).trans ?_
  fin_cases a
  · have : (y 0).val < 1 := (y 0).isLt
    show t.val / 8 * 1 + (y 0).val = t.val / 8; omega
  · have : (y 1).val < 1 := (y 1).isLt
    show t.val % 8 * 1 + (y 1).val = t.val % 8; omega
  · exact (congrArg (· + (y 2).val) (Nat.zero_mul _)).trans (Nat.zero_add _)
  · exact (congrArg (· + (y 3).val) (Nat.zero_mul _)).trans (Nat.zero_add _)

theorem iblk7 (hO : Ok m) (c : Dev nD) (t : Fin grid0.N) (y : S1792x224.Idx) :
    iblk m hO c 7 t y = V m c main_v91 y := by
  refine congrArg (V m c main_v91) ?_
  funext a; apply Fin.ext
  refine (Pipeline.Window.rect_emb_val ((cfgM m hO).win 7) t y a).trans ?_
  refine (congrArg (fun f : Fin S1792x224.rank → ℕ => f a * S1792x224.size a + (y a).val) ((index_eq t).2.2.2.2.2.2.2.1)).trans ?_
  fin_cases a
  · exact (congrArg (· + (y 0).val) (Nat.zero_mul _)).trans (Nat.zero_add _)
  · exact (congrArg (· + (y 1).val) (Nat.zero_mul _)).trans (Nat.zero_add _)

/-- The padded new keys, head by head: a row past the last new token is zero. -/
theorem entry_v1 (c : Dev nD) (b : Fin 12) (h : Fin 8) (u : Fin 224) (d : Fin 128) :
    (V m c main_v1 (ix4 b h u d) : EReal)
      = @dite EReal (u.val < 211) _ (fun hu => m (c, Proc.tc.devRef main_arg1) (ix4 b (⟨u.val, hu⟩ : Fin 211) h d)) (fun _ => 0) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  split
  · rfl
  · exact sitofp_zero

/-- The padded new values, head by head: a row past the last new token is zero. -/
theorem entry_v3 (c : Dev nD) (b : Fin 12) (h : Fin 8) (u : Fin 224) (d : Fin 128) :
    (V m c main_v3 (ix4 b h u d) : EReal)
      = @dite EReal (u.val < 211) _ (fun hu => m (c, Proc.tc.devRef main_arg2) (ix4 b (⟨u.val, hu⟩ : Fin 211) h d)) (fun _ => 0) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  split
  · rfl
  · exact sitofp_zero

/-- The cached keys, head by head. -/
theorem entry_v92 (c : Dev nD) (b : Fin 12) (h : Fin 8) (p : Fin 2048) (d : Fin 128) :
    (V m c main_v92 (ix4 b h p d) : BitVec 8) = (m (c, Proc.tc.devRef main_arg3) (ix4 b p h d) : BitVec 8) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  try rfl

/-- The key scales, head by head. -/
theorem entry_v93 (c : Dev nD) (b : Fin 12) (h : Fin 8) (p : Fin 16) (d : Fin 128) :
    (V m c main_v93 (ix4 b h p d) : EReal) = (m (c, Proc.tc.devRef main_arg4) (ix4 b p h d) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  try rfl

/-- The cached values, head by head. -/
theorem entry_v94 (c : Dev nD) (b : Fin 12) (h : Fin 8) (p : Fin 2048) (d : Fin 128) :
    (V m c main_v94 (ix4 b h p d) : BitVec 8) = (m (c, Proc.tc.devRef main_arg5) (ix4 b p h d) : BitVec 8) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  try rfl

/-- The value scales, head by head. -/
theorem entry_v96 (c : Dev nD) (b : Fin 12) (h : Fin 8) (p : Fin 2048) :
    (V m c main_v96 (ix4 b h 0 p) : EReal) = (m (c, Proc.tc.devRef main_arg6) (ix3 b p h) : EReal) := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  try rfl

end Cert.KernelIdeal.Gen

end
-- ==== Proof.MaskWord.lean ====
/- The lookahead mask as a function of two token numbers held in words: the kernel computes it with rounding-down quotients and
   nonnegative remainders, the reference with truncating ones. The two agree on every pair of tokens, because a quotient
   or remainder counts only where it is of a nonnegative number. -/
module

public import Idealize.ShloMosaic.PureOps

@[expose] public section

set_option maxRecDepth 16384

namespace Cert.Mask

open Idealize.ShloMosaic

/-- The sign of a word: 0, 1 or -1. -/
def sgn (x : BitVec 32) : BitVec 32 := if x = 0 then 0 else if x.msb then -1 else 1

/-- The quotient rounded down. -/
def fdiv (x d : BitVec 32) : BitVec 32 :=
  Scalar.select (IntOp.andi (IntOp.cmpi .ne (sgn x) (sgn d)) (IntOp.cmpi .ne (IntOp.remsi .host x d) 0#32))
    (IntOp.subi (IntOp.divsi .host x d) 1#32) (IntOp.divsi .host x d)

/-- A zero divisor is replaced by one. -/
def safe (d : BitVec 32) : BitVec 32 := Scalar.select (IntOp.cmpi .eq d 0#32) 1#32 d

/-- The remainder with the divisor's sign. -/
def fmod (x d : BitVec 32) : BitVec 32 :=
  Scalar.select
    (IntOp.andi (IntOp.cmpi .ne (IntOp.cmpi .slt (IntOp.remsi .host x (safe d)) 0#32) (IntOp.cmpi .slt (safe d) 0#32))
      (IntOp.cmpi .ne (IntOp.remsi .host x (safe d)) 0#32))
    (IntOp.addi (IntOp.remsi .host x (safe d)) (safe d)) (IntOp.remsi .host x (safe d))

/-- A token of the lookahead window. -/
def la (t : BitVec 32) : BitVec 1 := IntOp.andi (IntOp.cmpi .sge t 1#32) (IntOp.cmpi .slt t 121#32)

/-- A token's place in the lookahead window, and its place among the verification branches. -/
def inLa (t : BitVec 32) : BitVec 32 := IntOp.subi t 1#32
def inVf (t : BitVec 32) : BitVec 32 := IntOp.subi (IntOp.subi t 1#32) 120#32

/-- The lookahead window's rule, of the two tokens' levels and positions. -/
def window (lq jq lk jk : BitVec 32) : BitVec 1 :=
  IntOp.ori (IntOp.andi (IntOp.cmpi .eq lk 0#32) (IntOp.cmpi .sle jk jq))
    (IntOp.andi (IntOp.andi (IntOp.cmpi .sge lk 1#32) (IntOp.cmpi .sle lk lq)) (IntOp.cmpi .eq jk jq))

/-- The kernel's mask bit of query token `t` and key token `u`. -/
def kernelBit (t u : BitVec 32) : BitVec 1 :=
  IntOp.ori
    (IntOp.ori (IntOp.cmpi .eq u 0#32)
      (IntOp.andi (IntOp.andi (la t) (la u))
        (window (fdiv (inLa t) 20#32) (fmod (inLa t) 20#32) (fdiv (inLa u) 20#32) (fmod (inLa u) 20#32))))
    (IntOp.andi
      (IntOp.andi
        (IntOp.andi (IntOp.andi (IntOp.cmpi .sge (inVf t) 0#32) (IntOp.cmpi .sge (inVf u) 0#32)) (IntOp.cmpi .slt u 211#32))
        (IntOp.cmpi .eq (fdiv (inVf t) 6#32) (fdiv (inVf u) 6#32)))
      (IntOp.cmpi .sle (fmod (inVf u) 6#32) (fmod (inVf t) 6#32)))

/-- The reference's mask bit of query token `t` and key token `u`. -/
def refBit (t u : BitVec 32) : BitVec 1 :=
  IntOp.ori
    (IntOp.ori (IntOp.andi (IntOp.cmpi .eq u 0#32) 1#1)
      (IntOp.andi (IntOp.andi (la t) (la u))
        (window (IntOp.divsi .host (inLa t) 20#32) (IntOp.remsi .host (inLa t) 20#32)
          (IntOp.divsi .host (inLa u) 20#32) (IntOp.remsi .host (inLa u) 20#32))))
    (IntOp.andi
      (IntOp.andi (IntOp.andi (IntOp.cmpi .sge t 121#32) (IntOp.cmpi .sge u 121#32))
        (IntOp.cmpi .eq (IntOp.divsi .host (inVf u) 6#32) (IntOp.divsi .host (inVf t) 6#32)))
      (IntOp.cmpi .sle (IntOp.remsi .host (inVf u) 6#32) (IntOp.remsi .host (inVf t) 6#32)))

theorem window_token : ∀ t : Fin 211, la (BitVec.ofNat 32 t) = 0#1
    ∨ (fdiv (inLa (BitVec.ofNat 32 t)) 20#32 = IntOp.divsi .host (inLa (BitVec.ofNat 32 t)) 20#32
      ∧ fmod (inLa (BitVec.ofNat 32 t)) 20#32 = IntOp.remsi .host (inLa (BitVec.ofNat 32 t)) 20#32) := by decide +kernel

theorem branch_token : ∀ t : Fin 211,
    IntOp.cmpi .sge (inVf (BitVec.ofNat 32 t)) 0#32 = IntOp.cmpi .sge (BitVec.ofNat 32 t) 121#32
    ∧ (IntOp.cmpi .sge (BitVec.ofNat 32 t) 121#32 = 0#1
      ∨ (fdiv (inVf (BitVec.ofNat 32 t)) 6#32 = IntOp.divsi .host (inVf (BitVec.ofNat 32 t)) 6#32
        ∧ fmod (inVf (BitVec.ofNat 32 t)) 6#32 = IntOp.remsi .host (inVf (BitVec.ofNat 32 t)) 6#32))
    ∧ IntOp.cmpi .slt (BitVec.ofNat 32 t) 211#32 = 1#1 := by decide +kernel

theorem bit_and_zero (a : BitVec 1) : IntOp.andi a 0#1 = 0#1 := by revert a; decide
theorem zero_and_bit (a : BitVec 1) : IntOp.andi 0#1 a = 0#1 := by revert a; decide
theorem bit_and_one (a : BitVec 1) : IntOp.andi a 1#1 = a := by revert a; decide
theorem one_or_bit (a : BitVec 1) : IntOp.ori 1#1 a = 1#1 := by revert a; decide
theorem cmpi_eq_comm (x y : BitVec 32) : IntOp.cmpi .eq x y = IntOp.cmpi .eq y x := by
  show BitVec.ofBool (x == y) = BitVec.ofBool (y == x)
  rw [Bool.beq_comm]

/-- The two masks are the same on every pair of tokens. -/
theorem kernelBit_eq_refBit (t u : Fin 211) :
    kernelBit (BitVec.ofNat 32 t) (BitVec.ofNat 32 u) = refBit (BitVec.ofNat 32 t) (BitVec.ofNat 32 u) := by
  obtain ⟨ht1, ht2, -⟩ := branch_token t
  obtain ⟨hu1, hu2, hu3⟩ := branch_token u
  have hw := window_token t
  have hv := window_token u
  generalize BitVec.ofNat 32 t.val = x at *
  generalize BitVec.ofNat 32 u.val = y at *
  unfold kernelBit refBit
  rw [ht1, hu1, hu3, bit_and_one, bit_and_one]
  refine congrArg₂ IntOp.ori (congrArg (IntOp.ori _) ?_) ?_
  · rcases hw with h | ⟨h, h'⟩
    · rw [h, zero_and_bit, zero_and_bit, zero_and_bit]
    · rcases hv with k | ⟨k, k'⟩
      · rw [k, bit_and_zero, zero_and_bit, zero_and_bit]
      · rw [h, h', k, k']
  · rcases ht2 with h | ⟨h, h'⟩
    · rw [h]; simp only [zero_and_bit]
    · rcases hu2 with k | ⟨k, k'⟩
      · rw [k]; simp only [zero_and_bit, bit_and_zero]
      · rw [h, h', k, k', cmpi_eq_comm]

/-- Every query sees new key 0. -/
theorem kernelBit_first (t : BitVec 32) : kernelBit t (BitVec.ofNat 32 0) = 1#1 := by
  unfold kernelBit
  rw [show IntOp.cmpi .eq (BitVec.ofNat 32 0) 0#32 = 1#1 from by decide, one_or_bit, one_or_bit]

theorem pad_token : ∀ u : Fin 224, 211 ≤ u.val → IntOp.cmpi .eq (BitVec.ofNat 32 u) 0#32 = 0#1
    ∧ la (BitVec.ofNat 32 u) = 0#1 ∧ IntOp.cmpi .slt (BitVec.ofNat 32 u) 211#32 = 0#1 := by decide +kernel

/-- No query sees a padding key. -/
theorem kernelBit_pad (t : BitVec 32) (u : Fin 224) (hu : 211 ≤ u.val) : kernelBit t (BitVec.ofNat 32 u) = 0#1 := by
  obtain ⟨h1, h2, h3⟩ := pad_token u hu
  unfold kernelBit
  rw [h1, h2, h3]
  simp only [zero_and_bit, bit_and_zero]
  decide

/-- A row's token: the rows of one head group are 224 apart. -/
theorem row_token : ∀ R : Fin 1792, fmod (BitVec.ofNat 32 R) 224#32 = BitVec.ofNat 32 (R.val % 224) := by decide +kernel

end Cert.Mask

end
-- ==== Proof.KernelIdealMask.lean ====
/- The mask array the host prepares for the kernel, element by element. -/
module

public import proofs.«01_k».proof.Proof.KernelIdealBlocks
public import proofs.«01_k».proof.Proof.MaskWord

@[expose] public section

set_option maxRecDepth 16384

noncomputable section

namespace Cert.KernelIdeal.Gen

open Idealize.ShloMosaic Idealize.ShloMosaic.TcCoe Idealize.ShloMosaic.Tactic

variable (m : (ℓ : Loc nD τ sig) → Buf (Elt Ideal) ℓ)

set_option maxHeartbeats 8000000 in
/-- The mask holds 1 where the row's token sees the key and 0 elsewhere. -/
theorem entry_v91 (c : Dev nD) (R : Fin 1792) (u : Fin 224) :
    (V m c main_v91 (ix2 R u) : EReal)
      = Scalar.select (Mask.kernelBit (Mask.fmod (BitVec.ofNat 32 R) 224#32) (BitVec.ofNat 32 u))
          (1 : EReal) 0 := by
  simp only [V, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, List.flatten_cons, List.flatten_nil, List.append_nil, List.cons_append, List.nil_append]
  after_reads_at
  simp only [id]
  change Scalar.select _ _ _ = Scalar.select _ _ _
  refine congr (congr (congrArg Scalar.select ?_) ?_) ?_
  · rfl
  · exact Ideal.ofBits_one_f32
  · exact Ideal.ofBits_zero_f32

end Cert.KernelIdeal.Gen

end
-- ==== Proof.RefTerm.lean ====
/- The reference's result, its long composed term given in named steps: the scores against the cache and the new keys, the
   mask, the maximum, the exponentials, the denominator, the probabilities. -/
module

public import proofs.«01_k».proof.Proof.Gen.ReferenceIdeal.Run
public import Idealize.ShloMosaic.PureOps.Ideal

@[expose] public section

set_option maxRecDepth 16384

noncomputable section

namespace Cert.ReferenceIdeal.Value

open Cert.ReferenceIdeal Cert.ReferenceIdeal.Gen Idealize.ShloMosaic Idealize.ShloMosaic.TcCoe

variable (x : FVec Ideal S12x211x8192 .bf16) (kn vn : FVec Ideal S12x211x8x128 .bf16) (kc vc : IVec S12x2048x8x128 8)
  (ks : FVec Ideal S12x16x8x128 .f32) (vs : FVec Ideal S12x2048x8 .f32) (cl : IVec S12 32)

/-- The queries, by key head and query head. -/
def queries : FVec Ideal S12x211x8x8x128 .bf16 := shapeCast _ x shapeCasts_S12x211x8192_S12x211x8x8x128

/-- The cached keys, each block scaled. -/
def keys : FVec Ideal S12x2048x8x128 .bf16 :=
  shapeCast _
    (mulf (shapeCast _ (truncf .bf16 (sitofp (F := Ideal) .f32 (extsi 32 kc natLt_8_32)) bitsLt_bf16_f32) shapeCasts_S12x2048x8x128_S12x16x128x8x128)
      (broadcastInDim S12x16x128x8x128 ![0, 1, 2, 3, 4] bcast_S12x16x1x8x128_S12x16x128x8x128_0_1_2_3_4
        (broadcastInDim S12x16x1x8x128 ![0, 1, 3, 4] bcast_S12x16x8x128_S12x16x1x8x128_0_1_3_4 (truncf .bf16 ks bitsLt_bf16_f32))))
    shapeCasts_S12x16x128x8x128_S12x2048x8x128

/-- The scores against the cached keys, masked by the cache's length. -/
def oldScores : FVec Ideal S12x8x8x211x2048 .f32 :=
  select
    (broadcastInDim S12x8x8x211x2048 ![0, 1, 2, 3, 4] bcast_S12x1x1x1x2048_S12x8x8x211x2048_0_1_2_3_4
      (broadcastInDim S12x1x1x1x2048 ![0, 4] bcast_S12x2048_S12x1x1x1x2048_0_4
        (cmpi .slt
          (broadcastInDim S12x2048 ![0, 1] bcast_S1x2048_S12x2048_0_1 (broadcastInDim S1x2048 ![1] bcast_S2048_S1x2048_1 (iotaInDim S2048 32 0)))
          (broadcastInDim S12x2048 ![0, 1] bcast_S12x1_S12x2048_0_1 (broadcastInDim S12x1 ![0] bcast_S12_S12x1_0 cl)))))
    (mulf
      (transpose S12x8x8x211x2048 [0, 1, 4, 3, 2]
        (Host.dotGeneral dot_S12x2048x8x128_S12x211x8x8x128_S12x8x2048x211x8_3_4_1_13_02_02 none (keys kc ks) (queries x))
        transposes_S12x8x2048x211x8_S12x8x8x211x2048_0_1_4_3_2)
      (broadcastInDim S12x8x8x211x2048 ![] bcast_S_S12x8x8x211x2048 (constant S_ .f32 0x3DB504F3#32)))
    (broadcastInDim S12x8x8x211x2048 ![] bcast_S_S12x8x8x211x2048 (id (constant S_ .f32 0xFF800000#32)))

/-- A scalar spread over the tokens, over a column of them, or over a row of them. -/
def tok (n : BitVec 32) : IVec S211 32 := broadcastInDim S211 ![] bcast_S_S211 (constantI S_ 32 n)
def rowC (n : BitVec 32) : IVec S1x211 32 := broadcastInDim S1x211 ![] bcast_S_S1x211 (constantI S_ 32 n)

/-- The token numbers, which of them the lookahead window and the branches hold, and their places there. -/
def tokens : IVec S211 32 := iotaInDim S211 32 0
def isLa : IVec S211 1 := andi (cmpi .sge tokens (tok 1#32)) (cmpi .slt tokens (tok 121#32))
def isVf : IVec S211 1 := cmpi .sge tokens (tok 121#32)
def level : IVec S211 32 := Host.divsi (subi tokens (tok 1#32)) (tok 20#32)
def place : IVec S211 32 := Host.remsi (subi tokens (tok 1#32)) (tok 20#32)
def branch : IVec S211 32 := Host.divsi (subi (subi tokens (tok 1#32)) (tok 120#32)) (tok 6#32)
def stage : IVec S211 32 := Host.remsi (subi (subi tokens (tok 1#32)) (tok 120#32)) (tok 6#32)

/-- A token array as a row (keys), and as the rows or the columns of a square. -/
def asRow {w : ℕ} (a : IVec S211 w) : IVec S1x211 w := broadcastInDim S1x211 ![1] bcast_S211_S1x211_1 a
def spread {w : ℕ} (a : IVec S1x211 w) : IVec S211x211 w := broadcastInDim S211x211 ![0, 1] bcast_S1x211_S211x211_0_1 a
def asCols {w : ℕ} (a : IVec S211 w) : IVec S211x211 w :=
  broadcastInDim S211x211 ![0, 1] bcast_S211x1_S211x211_0_1 (broadcastInDim S211x1 ![0] bcast_S211_S211x1_0 a)

/-- The lookahead mask. -/
def mask : IVec S211x211 1 :=
  ori
    (ori
      (andi (spread (cmpi .eq (asRow tokens) (rowC 0#32)))
        (broadcastInDim S211x211 ![0, 1] bcast_S211x1_S211x211_0_1 (broadcastInDim S211x1 ![] bcast_S_S211x1 (constantI S_ 1 1#1))))
      (andi (andi (asCols isLa) (spread (asRow isLa)))
        (ori
          (andi (spread (cmpi .eq (asRow level) (rowC 0#32))) (cmpi .sle (spread (asRow place)) (asCols place)))
          (andi
            (andi (spread (cmpi .sge (asRow level) (rowC 1#32))) (cmpi .sle (spread (asRow level)) (asCols level)))
            (cmpi .eq (spread (asRow place)) (asCols place))))))
    (andi
      (andi (andi (asCols isVf) (spread (asRow isVf))) (cmpi .eq (spread (asRow branch)) (asCols branch)))
      (cmpi .sle (spread (asRow stage)) (asCols stage)))

/-- The scores against the new keys, masked. -/
def newScores : FVec Ideal S12x8x8x211x211 .f32 :=
  select
    (broadcastInDim S12x8x8x211x211 ![0, 1, 2, 3, 4] bcast_S1x1x1x211x211_S12x8x8x211x211_0_1_2_3_4
      (broadcastInDim S1x1x1x211x211 ![3, 4] bcast_S211x211_S1x1x1x211x211_3_4 mask))
    (mulf
      (transpose S12x8x8x211x211 [0, 1, 4, 3, 2]
        (Host.dotGeneral dot_S12x211x8x128_S12x211x8x8x128_S12x8x211x211x8_3_4_1_13_02_02 none kn (queries x))
        transposes_S12x8x211x211x8_S12x8x8x211x211_0_1_4_3_2)
      (broadcastInDim S12x8x8x211x211 ![] bcast_S_S12x8x8x211x211 (constant S_ .f32 0x3DB504F3#32)))
    (broadcastInDim S12x8x8x211x211 ![] bcast_S_S12x8x8x211x211 (id (constant S_ .f32 0xFF800000#32)))

/-- A query's value spread over the cached keys, or over the new keys. -/
def overOld (a : FVec Ideal S12x8x8x211 .f32) : FVec Ideal S12x8x8x211x2048 .f32 :=
  broadcastInDim S12x8x8x211x2048 ![0, 1, 2, 3, 4] bcast_S12x8x8x211x1_S12x8x8x211x2048_0_1_2_3_4
    (broadcastInDim S12x8x8x211x1 ![0, 1, 2, 3] bcast_S12x8x8x211_S12x8x8x211x1_0_1_2_3 a)
def overNew (a : FVec Ideal S12x8x8x211 .f32) : FVec Ideal S12x8x8x211x211 .f32 :=
  broadcastInDim S12x8x8x211x211 ![0, 1, 2, 3, 4] bcast_S12x8x8x211x1_S12x8x8x211x211_0_1_2_3_4
    (broadcastInDim S12x8x8x211x1 ![0, 1, 2, 3] bcast_S12x8x8x211_S12x8x8x211x1_0_1_2_3 a)

section Softmax

variable (sc : FVec Ideal S12x8x8x211x2048 .f32) (sn : FVec Ideal S12x8x8x211x211 .f32)

/-- The largest score of each query. -/
def top : FVec Ideal S12x8x8x211 .f32 :=
  maximumf (Host.reduce FloatOps.maximumf sc (constant S_ .f32 0xFF800000#32) reducesTo_S12x8x8x211x2048_S12x8x8x211_d4 h_S_)
    (Host.reduce FloatOps.maximumf sn (constant S_ .f32 0xFF800000#32) reducesTo_S12x8x8x211x211_S12x8x8x211_d4 h_S_)

/-- The exponentials below the largest score. -/
def oldExp : FVec Ideal S12x8x8x211x2048 .f32 := Host.exp (subf sc (overOld (top sc sn)))
def newExp : FVec Ideal S12x8x8x211x211 .f32 := Host.exp (subf sn (overNew (top sc sn)))

/-- Their sum. -/
def total : FVec Ideal S12x8x8x211 .f32 :=
  addf (Host.reduceAdd (oldExp sc sn) (constant S_ .f32 0x00000000#32) reducesTo_S12x8x8x211x2048_S12x8x8x211_d4 h_S_)
    (Host.reduceAdd (newExp sc sn) (constant S_ .f32 0x00000000#32) reducesTo_S12x8x8x211x211_S12x8x8x211_d4 h_S_)

/-- The probabilities, the cached ones times their values' scales. -/
def oldProb : FVec Ideal S12x8x8x211x2048 .bf16 :=
  truncf .bf16
    (mulf (Host.divf (oldExp sc sn) (overOld (total sc sn)))
      (broadcastInDim S12x8x8x211x2048 ![0, 1, 2, 3, 4] bcast_S12x8x1x1x2048_S12x8x8x211x2048_0_1_2_3_4
        (broadcastInDim S12x8x1x1x2048 ![0, 1, 4] bcast_S12x8x2048_S12x8x1x1x2048_0_1_4
          (transpose S12x8x2048 [0, 2, 1] vs transposes_S12x2048x8_S12x8x2048_0_2_1)))) bitsLt_bf16_f32
def newProb : FVec Ideal S12x8x8x211x211 .bf16 := truncf .bf16 (Host.divf (newExp sc sn) (overNew (total sc sn))) bitsLt_bf16_f32

/-- The output of the scores. -/
def output : FVec Ideal S12x211x8192 .bf16 :=
  truncf .bf16
    (shapeCast _
      (addf
        (transpose S12x211x8x8x128 [0, 4, 1, 3, 2]
          (Host.dotGeneral dot_S12x2048x8x128_S12x8x8x211x2048_S12x8x128x8x211_1_4_3_23_02_01 none
            (truncf .bf16 (sitofp (F := Ideal) .f32 (extsi 32 vc natLt_8_32)) bitsLt_bf16_f32 : FVec Ideal S12x2048x8x128 .bf16) (oldProb vs sc sn))
          transposes_S12x8x128x8x211_S12x211x8x8x128_0_4_1_3_2)
        (transpose S12x211x8x8x128 [0, 4, 1, 3, 2]
          (Host.dotGeneral dot_S12x211x8x128_S12x8x8x211x211_S12x8x128x8x211_1_4_3_23_02_01 none vn (newProb sc sn))
          transposes_S12x8x128x8x211_S12x211x8x8x128_0_4_1_3_2))
      shapeCasts_S12x211x8x8x128_S12x211x8192) bitsLt_bf16_f32

end Softmax

set_option maxHeartbeats 4000000 in
/-- The reference's result is the output of its scores. -/
theorem res_eq (m : (ℓ : Loc nD τ sig) → Buf (Elt Ideal) ℓ) (c : Dev nD) :
    res_main_v138 (F := Ideal) m c
      = output (m ((c.tc : Thread nD τ).loc main_arg2)) (m ((c.tc : Thread nD τ).loc main_arg5)) (m ((c.tc : Thread nD τ).loc main_arg6))
          (oldScores (m ((c.tc : Thread nD τ).loc main_arg0)) (m ((c.tc : Thread nD τ).loc main_arg3)) (m ((c.tc : Thread nD τ).loc main_arg4))
            (m ((c.tc : Thread nD τ).loc main_arg7)))
          (newScores (m ((c.tc : Thread nD τ).loc main_arg0)) (m ((c.tc : Thread nD τ).loc main_arg1))) := by
  unfold res_main_v138
  rfl

end Cert.ReferenceIdeal.Value

end
-- ==== Proof.RefValue.lean ====
/- The reference's steps, element by element, and its result as the plain softmax of Softmax.lean. -/
module

public import proofs.«01_k».proof.Proof.RefTerm
public import proofs.«01_k».proof.Proof.MaskWord
public import proofs.«01_k».proof.Proof.Softmax
public import proofs.«01_k».proof.Proof.KernelIdealPay
public import Idealize.ShloMosaic.Lib.Pointwise.Tactic
public import Idealize.ShloMosaic.Lib.Pipeline.ValueKit

@[expose] public section

set_option maxRecDepth 16384

noncomputable section

namespace Cert.ReferenceIdeal.Value

open Cert.ReferenceIdeal Cert.ReferenceIdeal.Gen Idealize.ShloMosaic Idealize.ShloMosaic.TcCoe Cert.Softmax

variable (x : FVec Ideal S12x211x8192 .bf16) (kn vn : FVec Ideal S12x211x8x128 .bf16) (kc vc : IVec S12x2048x8x128 8)
  (ks : FVec Ideal S12x16x8x128 .f32) (vs : FVec Ideal S12x2048x8 .f32) (cl : IVec S12 32)

theorem mask_at (t u : Fin 211) : mask (ix2 t u) = Mask.refBit (BitVec.ofNat 32 t) (BitVec.ofNat 32 u) := rfl

theorem queries_at (b : Fin 12) (t : Fin 211) (h g : Fin 8) (d : Fin 128) :
    queries x (ix5 b t h g d) = x (ix3 b t ⟨1024 * h.val + (128 * g.val + d.val), by omega⟩) := by
  pointwise [queries]
  congr 2
  apply Fin.ext
  show h.val * 1024 + g.val * 128 + d.val = 1024 * h.val + (128 * g.val + d.val)
  omega

theorem sitofp_wide (v : BitVec 8) : FloatOps.sitofp (F := Ideal) .f32 (BitVec.signExtend 32 v) = FloatOps.sitofp (F := Ideal) .f32 v := by
  show (((BitVec.signExtend 32 v).toInt : ℝ) : EReal) = ((v.toInt : ℝ) : EReal)
  rw [BitVec.toInt_signExtend_of_le (by decide)]

theorem keys_at (b : Fin 12) (p : Fin 2048) (h : Fin 8) (d : Fin 128) :
    keys kc ks (ix4 b p h d) = FloatOps.sitofp (F := Ideal) .f32 (kc (ix4 b p h d)) * ks (ix4 b ⟨p.val / 128, by omega⟩ h d) := by
  pointwise [keys]
  rw [sitofp_wide]

/-- A cached score. -/
theorem oldScores_at (b : Fin 12) (h g : Fin 8) (t : Fin 211) (p : Fin 2048) :
    oldScores x kc ks cl (ix5 b h g t p)
      = Scalar.select (IntOp.cmpi .slt (BitVec.ofNat 32 p) (cl (ix1 b)))
          ((∑ d : Fin 128, keys kc ks (ix4 b p h d) * queries x (ix5 b t h g d)) * Ideal.ofBits .f32 0x3DB504F3#32) ⊥ := by
  pointwise [oldScores]
  exact congrArg (Scalar.select _ _) Cert.KernelIdeal.Gen.ofBits_negInf

/-- A new score. -/
theorem newScores_at (b : Fin 12) (h g : Fin 8) (t u : Fin 211) :
    newScores x kn (ix5 b h g t u)
      = Scalar.select (Mask.refBit (BitVec.ofNat 32 t) (BitVec.ofNat 32 u))
          ((∑ d : Fin 128, kn (ix4 b u h d) * queries x (ix5 b t h g d)) * Ideal.ofBits .f32 0x3DB504F3#32) ⊥ := by
  rw [← mask_at]
  pointwise [newScores]
  exact congrArg (Scalar.select _ _) Cert.KernelIdeal.Gen.ofBits_negInf

section Softmax

variable (sc : FVec Ideal S12x8x8x211x2048 .f32) (sn : FVec Ideal S12x8x8x211x211 .f32)
  (b : Fin 12) (h g : Fin 8) (t : Fin 211)

/-- A query's scores, by the key's number. -/
def oldRow (p : ℕ) : EReal := if hp : p < 2048 then sc (ix5 b h g t ⟨p, hp⟩) else ⊥
def newRow (u : ℕ) : EReal := if hu : u < 211 then sn (ix5 b h g t ⟨u, hu⟩) else ⊥

theorem oldRow_val (p : Fin 2048) : oldRow sc b h g t p.val = sc (ix5 b h g t p) := dif_pos p.isLt
theorem newRow_val (u : Fin 211) : newRow sn b h g t u.val = sn (ix5 b h g t u) := dif_pos u.isLt

theorem maximumf_at {s : Shape} (a b : FVec Ideal s .f32) (i : s.Idx) : maximumf a b i = max (a i) (b i) := rfl

/-- A maximum over the last of five axes. -/
theorem reduce_last {n0 n1 n2 n3 n4 : ℕ} {u : Shape} (v : FVec Ideal ⟨5, ![n0, n1, n2, n3, n4]⟩ .f32) (c : FVec Ideal u .f32)
    (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf v c h hu (ix4 i0 i1 i2 i3)
      = Finset.univ.fold max (c (Shape.Idx.first hu)) fun k : Fin n4 => v (ix5 i0 i1 i2 i3 k) := by
  simp only [pointwise]

/-- A query's largest score. -/
theorem top_at : top sc sn (ix4 b h g t) = refMax 211 2048 (newRow sn b h g t) (oldRow sc b h g t) := by
  unfold refMax
  rw [← Cert.KernelIdeal.Gen.fold_range, ← Cert.KernelIdeal.Gen.fold_range]
  simp only [oldRow_val, newRow_val]
  rw [← Cert.KernelIdeal.Gen.ofBits_negInf]
  unfold top
  rw [maximumf_at, reduce_last, reduce_last]
  rfl

theorem oldExp_at (p : Fin 2048) :
    oldExp sc sn (ix5 b h g t p) = Ideal.exp (sc (ix5 b h g t p) - top sc sn (ix4 b h g t)) := by
  pointwise [oldExp, overOld]

theorem newExp_at (u : Fin 211) :
    newExp sc sn (ix5 b h g t u) = Ideal.exp (sn (ix5 b h g t u) - top sc sn (ix4 b h g t)) := by
  pointwise [newExp, overNew]

/-- A query's denominator. -/
theorem total_at : total sc sn (ix4 b h g t) = refDen 211 2048 (newRow sn b h g t) (oldRow sc b h g t) := by
  unfold refDen
  rw [Finset.sum_range, Finset.sum_range, ← top_at]
  simp only [oldRow_val, newRow_val, ← oldExp_at, ← newExp_at]
  pointwise [total]

theorem oldProb_at (p : Fin 2048) :
    oldProb vs sc sn (ix5 b h g t p) = Ideal.div (oldExp sc sn (ix5 b h g t p)) (total sc sn (ix4 b h g t)) * vs (ix3 b p h) := by
  pointwise [oldProb, overOld]

theorem newProb_at (u : Fin 211) :
    newProb sc sn (ix5 b h g t u) = Ideal.div (newExp sc sn (ix5 b h g t u)) (total sc sn (ix4 b h g t)) := by
  pointwise [newProb, overNew]

/-- The values' weights in column `d`, by the key's number. -/
def oldWeight (d : Fin 128) (p : ℕ) : EReal :=
  if hp : p < 2048 then vs (ix3 b ⟨p, hp⟩ h) * FloatOps.sitofp (F := Ideal) .f32 (vc (ix4 b ⟨p, hp⟩ h d)) else 0
def newWeight (d : Fin 128) (u : ℕ) : EReal := if hu : u < 211 then vn (ix4 b ⟨u, hu⟩ h d) else 0

theorem oldWeight_val (d : Fin 128) (p : Fin 2048) :
    oldWeight vc vs b h d p.val = vs (ix3 b p h) * FloatOps.sitofp (F := Ideal) .f32 (vc (ix4 b p h d)) := dif_pos p.isLt
theorem newWeight_val (d : Fin 128) (u : Fin 211) : newWeight vn b h d u.val = vn (ix4 b u h d) := dif_pos u.isLt

theorem output_sum (d : Fin 128) :
    output vn vc vs sc sn (ix3 b t ⟨1024 * h.val + (128 * g.val + d.val), by omega⟩)
      = (∑ p : Fin 2048, FloatOps.sitofp (F := Ideal) .f32 (BitVec.signExtend 32 (vc (ix4 b p h d))) * oldProb vs sc sn (ix5 b h g t p))
        + ∑ u : Fin 211, vn (ix4 b u h d) * newProb sc sn (ix5 b h g t u) := by
  pointwise [output]

/-- The reference's output is the plain softmax of the query's scores. -/
theorem output_at (d : Fin 128) :
    output vn vc vs sc sn (ix3 b t ⟨1024 * h.val + (128 * g.val + d.val), by omega⟩)
      = refOut 211 2048 (newRow sn b h g t) (newWeight vn b h d) (oldRow sc b h g t) (oldWeight vc vs b h d) := by
  rw [output_sum]
  unfold refOut
  rw [Finset.sum_range, Finset.sum_range, ← total_at, ← top_at]
  simp only [oldRow_val, newRow_val, oldWeight_val, newWeight_val, ← oldExp_at, ← newExp_at, oldProb_at, newProb_at, sitofp_wide]
  refine congrArg₂ (· + ·) (Finset.sum_congr rfl fun p _ => ?_) (Finset.sum_congr rfl fun u _ => mul_comm _ _)
  rw [mul_comm, mul_assoc]

end Softmax

end Cert.ReferenceIdeal.Value

end
-- ==== Proof.KernelIdealRow.lean ====
/- One row of the output as the reference's: a point's blocks being the arguments' (`Blocks`), the row's scores and weights
   are the reference's (`scoreNew_eq`, `scoreOld_eq`, `weightNew_eq`, `weightOld_eq`), so the blocked softmax over them is
   the reference's plain one (`rowOut_eq`). -/
module

public import proofs.«01_k».proof.Proof.KernelIdealTile
public import proofs.«01_k».proof.Proof.RefValue
public import proofs.«01_k».proof.Proof.MaskWord

@[expose] public section

set_option maxRecDepth 16384

noncomputable section

namespace Cert.KernelIdeal.Gen

open Idealize.ShloMosaic Idealize.ShloMosaic.TcCoe Cert.Softmax
open Cert.ReferenceIdeal.Value (oldScores newScores oldRow newRow oldWeight newWeight keys queries output)

/-! ## Real numbers among the extended ones -/

/-- The element is a real number. -/
def IsReal (a : EReal) : Prop := ∃ r : ℝ, a = (r : EReal)

theorem isReal_zero : IsReal 0 := ⟨0, rfl⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.sum {ι : Type} (S : Finset ι) {f : ι → EReal} (h : ∀ i, IsReal (f i)) : IsReal (∑ i ∈ S, f i) := by
  classical
  induction S using Finset.induction_on with
  | empty => exact isReal_zero
  | insert i S hi ih => rw [Finset.sum_insert hi]; exact (h i).add ih

theorem IsReal.ne_bot {a : EReal} (h : IsReal a) : a ≠ ⊥ := by
  obtain ⟨r, rfl⟩ := h
  exact EReal.coe_ne_bot r

theorem IsReal.ne_top {a : EReal} (h : IsReal a) : a ≠ ⊤ := by
  obtain ⟨r, rfl⟩ := h
  exact EReal.coe_ne_top r

theorem isReal_sitofp (v : BitVec 8) : IsReal (FloatOps.sitofp (F := Ideal) .f32 v) := ⟨(v.toInt : ℝ), rfl⟩

/-- The scale is a real number. -/
theorem isReal_scale : IsReal scale := by
  unfold scale IsReal
  simp only [Ideal.ofBits, Ideal.ieee]
  norm_num
  exact ⟨_, rfl⟩

/-! ## A point's blocks -/

variable (x : FVec Ideal S12x211x8192 .bf16) (kn vn : FVec Ideal S12x211x8x128 .bf16) (kc : IVec S12x2048x8x128 8)
  (ks : FVec Ideal S12x16x8x128 .f32) (vc : IVec S12x2048x8x128 8) (vs : FVec Ideal S12x2048x8 .f32) (cl : IVec S12 32)
  (b : Fin 12) (h : Fin 8)
  (x0 : Vec Ideal S1x211x1024 .bf16) (x1 x2 : Vec Ideal S1x1x224x128 .bf16) (x3 x5 : Vec Ideal S1x1x2048x128 .i8)
  (x4 : Vec Ideal S1x1x16x128 .f32) (x6 : Vec Ideal S1x1x1x2048 .f32) (x7 : Vec Ideal S1792x224 .f32) (v : BitVec 32)

/-- The blocks are batch `b`'s and key head `h`'s parts of the arguments. -/
structure Blocks : Prop where
  e0 : ∀ (t : Fin 211) (j : Fin 1024), (x0 (ix3 0 t j) : EReal) = x (ix3 b t ⟨1024 * h.val + j.val, by omega⟩)
  e1 : ∀ (u : Fin 224) (d : Fin 128), (x1 (ix4 0 0 u d) : EReal) = @dite EReal (u.val < 211) _ (fun hu => kn (ix4 b ⟨u.val, hu⟩ h d)) (fun _ => 0)
  e2 : ∀ (u : Fin 224) (d : Fin 128), (x2 (ix4 0 0 u d) : EReal) = @dite EReal (u.val < 211) _ (fun hu => vn (ix4 b ⟨u.val, hu⟩ h d)) (fun _ => 0)
  e3 : ∀ (p : Fin 2048) (d : Fin 128), (x3 (ix4 0 0 p d) : BitVec 8) = kc (ix4 b p h d)
  e4 : ∀ (p : Fin 16) (d : Fin 128), (x4 (ix4 0 0 p d) : EReal) = ks (ix4 b p h d)
  e5 : ∀ (p : Fin 2048) (d : Fin 128), (x5 (ix4 0 0 p d) : BitVec 8) = vc (ix4 b p h d)
  e6 : ∀ p : Fin 2048, (x6 (ix4 0 0 0 p) : EReal) = vs (ix3 b p h)
  e7 : ∀ (R : Fin 1792) (u : Fin 224), (x7 (ix2 R u) : EReal)
    = Scalar.select (Mask.kernelBit (Mask.fmod (BitVec.ofNat 32 R) 224#32) (BitVec.ofNat 32 u)) (1 : EReal) 0
  ev : v = cl (ix1 b)

/-- The queries, the new keys and the key scales are real numbers. -/
structure Reals : Prop where
  x : ∀ i, IsReal (x i)
  kn : ∀ i, IsReal (kn i)
  ks : ∀ i, IsReal (ks i)

variable {x kn vn kc ks vc vs cl b h x0 x1 x2 x3 x5 x4 x6 x7 v}
variable (B : Blocks x kn vn kc ks vc vs cl b h x0 x1 x2 x3 x5 x4 x6 x7 v) (hR : Reals x kn ks)

include B hR in
theorem isReal_qrow (R : Fin 1792) (d : Fin 128) : IsReal (qrow x0 (ix2 R d)) := by
  unfold qrow
  split
  · rw [B.e0]; exact hR.x _
  · exact isReal_zero

include B hR in
theorem isReal_x1 (u : Fin 224) (d : Fin 128) : IsReal (x1 (ix4 0 0 u d)) := by
  rw [B.e1]
  split
  · exact hR.kn _
  · exact isReal_zero

/-- A cached key, by coordinate. -/
theorem krow_val (p : Fin 2048) (d : Fin 128) :
    krow x3 x4 (ix2 p d) = FloatOps.sitofp (F := Ideal) .f32 (x3 (ix4 0 0 p d)) * x4 (ix4 0 0 ⟨p.val / 128, by omega⟩ d) := rfl

include B hR in
theorem isReal_krow (p : Fin 2048) (d : Fin 128) : IsReal (krow x3 x4 (ix2 p d)) := by
  rw [krow_val]
  refine (isReal_sitofp _).mul ?_
  rw [B.e4]
  exact hR.ks _

include B hR in
theorem isReal_dotNew (R : Fin 1792) (u : Fin 224) :
    IsReal ((∑ d : Fin 128, qrow x0 (ix2 R d) * x1 (ix4 0 0 u d)) * scale) :=
  (IsReal.sum _ fun d => (isReal_qrow B hR R d).mul (isReal_x1 B hR u d)).mul isReal_scale

include B hR in
theorem isReal_dotOld (R : Fin 1792) (p : Fin 2048) :
    IsReal ((∑ d : Fin 128, qrow x0 (ix2 R d) * krow x3 x4 (ix2 p d)) * scale) :=
  (IsReal.sum _ fun d => (isReal_qrow B hR R d).mul (isReal_krow B hR p d)).mul isReal_scale

/-- The mask's test is the bit. -/
theorem mask_pos (c : BitVec 1) : (0 : EReal) < Scalar.select c (1 : EReal) 0 ↔ c = 1#1 := by
  unfold Scalar.select
  by_cases hc : c = 1
  · rw [if_pos hc]; exact ⟨fun _ => hc, fun _ => zero_lt_one⟩
  · rw [if_neg hc]; exact ⟨fun h => absurd h (lt_irrefl _), fun h => absurd h hc⟩

include B in
/-- A new score, the mask by its bit. -/
theorem scoreNew_val (R : Fin 1792) (u : ℕ) (hu : u < 224) : scoreNew x0 x1 x7 R u
    = (∑ d : Fin 128, qrow x0 (ix2 R d) * x1 (ix4 0 0 ⟨u, hu⟩ d)) * scale
      + if Mask.kernelBit (BitVec.ofNat 32 (R.val % 224)) (BitVec.ofNat 32 u) = 1#1 then 0 else ⊥ := by
  unfold scoreNew
  rw [dif_pos hu, B.e7, Mask.row_token]
  simp only [mask_pos]

include B hR in
/-- The scores are what the softmax asks for. -/
theorem finite_of : Finite x0 x1 x3 x4 x7 v where
  first R := by
    rw [scoreNew_val B R 0 (by decide), Mask.kernelBit_first, if_pos rfl, add_zero]
    exact (isReal_dotNew B hR R 0).ne_bot
  new R u := by
    by_cases hu : u < 224
    · rw [scoreNew_val B R u hu]
      split
      · rw [add_zero]; exact (isReal_dotNew B hR R _).ne_top
      · rw [EReal.add_bot]; exact bot_ne_top
    · unfold scoreNew
      rw [dif_neg hu]; exact bot_ne_top
  old R p := by
    unfold scoreOld
    split
    · split
      · exact (isReal_dotOld B hR R _).ne_top
      · exact bot_ne_top
    · exact bot_ne_top

/-! ## The row of head `g` and token `t` -/

/-- Head `g`'s row of token `t`. -/
def row (g : Fin 8) (t : Fin 211) : Fin 1792 := ⟨224 * g.val + t.val, by omega⟩

theorem row_mod (g : Fin 8) (t : Fin 211) : (row g t).val % 224 = t.val := by
  show (224 * g.val + t.val) % 224 = t.val
  omega

include B in
/-- The row's queries are the reference's. -/
theorem qrow_eq (g : Fin 8) (t : Fin 211) (d : Fin 128) : qrow x0 (ix2 (row g t) d) = queries x (ix5 b t h g d) := by
  have ht : (224 * g.val + t.val) % 224 = t.val := by omega
  have hg : (224 * g.val + t.val) / 224 = g.val := by omega
  have e : qrow x0 (ix2 (row g t) d) = x0 (ix3 0 t ⟨128 * g.val + d.val, by omega⟩) := by
    unfold qrow
    refine (dif_pos (show (row g t).val % 224 < 211 by rw [row_mod]; exact t.isLt)).trans ?_
    refine congrArg x0 (congrArg₂ (ix3 (0 : Fin 1)) (Fin.ext ht) (Fin.ext ?_))
    show 128 * ((224 * g.val + t.val) / 224) + d.val = 128 * g.val + d.val
    rw [hg]
  rw [e, B.e0, Cert.ReferenceIdeal.Value.queries_at]

include B in
/-- The cached keys are the reference's. -/
theorem krow_eq (p : Fin 2048) (d : Fin 128) : krow x3 x4 (ix2 p d) = keys kc ks (ix4 b p h d) := by
  rw [Cert.ReferenceIdeal.Value.keys_at]
  rw [krow_val, B.e3, B.e4]

include B hR in
/-- The new scores are the reference's. -/
theorem scoreNew_eq (g : Fin 8) (t : Fin 211) : scoreNew x0 x1 x7 (row g t) = newRow (newScores x kn) b h g t := by
  funext u
  unfold newRow
  by_cases hu : u < 211
  · have hu' : u < 224 := by omega
    have hb := Mask.kernelBit_eq_refBit t ⟨u, hu⟩
    rw [dif_pos hu, Cert.ReferenceIdeal.Value.newScores_at, scoreNew_val B _ u hu', row_mod]
    have hs : (∑ d : Fin 128, qrow x0 (ix2 (row g t) d) * x1 (ix4 0 0 ⟨u, hu'⟩ d))
        = ∑ d : Fin 128, kn (ix4 b ⟨u, hu⟩ h d) * queries x (ix5 b t h g d) :=
      Finset.sum_congr rfl fun d _ => by rw [qrow_eq B, B.e1, dif_pos hu, mul_comm]
    rw [hs]
    show _ + (if Mask.kernelBit (BitVec.ofNat 32 t) (BitVec.ofNat 32 u) = 1#1 then (0 : EReal) else ⊥) = _
    rw [show Mask.kernelBit (BitVec.ofNat 32 t) (BitVec.ofNat 32 u) = Mask.refBit (BitVec.ofNat 32 t) (BitVec.ofNat 32 u) from hb]
    unfold Scalar.select
    show _ = if Mask.refBit (BitVec.ofNat 32 t) (BitVec.ofNat 32 u) = 1#1 then _ else _
    by_cases hm : Mask.refBit (BitVec.ofNat 32 t) (BitVec.ofNat 32 u) = 1#1
    · rw [if_pos hm, if_pos hm, add_zero]
    · rw [if_neg hm, if_neg hm, EReal.add_bot]
  · rw [dif_neg hu]
    by_cases hu' : u < 224
    · rw [scoreNew_val B _ u hu',
        show Mask.kernelBit (BitVec.ofNat 32 ((row g t).val % 224)) (BitVec.ofNat 32 u) = 0#1 from
          Mask.kernelBit_pad _ ⟨u, hu'⟩ (by show 211 ≤ u; omega), if_neg (by decide), EReal.add_bot]
    · unfold scoreNew
      rw [dif_neg hu']

include B in
/-- The new weights are the reference's. -/
theorem weightNew_eq (d : Fin 128) : weightNew x2 d = newWeight vn b h d := by
  funext u
  unfold weightNew newWeight
  by_cases hu : u < 211
  · rw [dif_pos (show u < 224 by omega), dif_pos hu, B.e2, dif_pos hu]
  · rw [dif_neg hu]
    split
    · rw [B.e2, dif_neg hu]
    · rfl

/-- The comparison of a cached key's number with the length. -/
theorem slt_iff (p : Fin 2048) : IntOp.cmpi .slt (BitVec.ofNat 32 p) v = 1#1 ↔ (p.val : ℤ) < v.toInt := by
  have hp : (BitVec.ofNat 32 p.val).toInt = (p.val : ℤ) := by
    have h2 : p.val < 2048 := p.isLt
    rw [BitVec.toInt_eq_toNat_of_lt (by rw [BitVec.toNat_ofNat]; omega), BitVec.toNat_ofNat]
    omega
  show BitVec.ofBool ((BitVec.ofNat 32 p.val).slt v) = 1#1 ↔ _
  rw [BitVec.slt, hp]
  by_cases h : (p.val : ℤ) < v.toInt <;> simp [h]

include B in
/-- The cached scores are the reference's. -/
theorem scoreOld_eq (g : Fin 8) (t : Fin 211) : scoreOld x0 x3 x4 v (row g t) = oldRow (oldScores x kc ks cl) b h g t := by
  funext p
  unfold scoreOld oldRow
  by_cases hp : p < 2048
  · rw [dif_pos hp, dif_pos hp, Cert.ReferenceIdeal.Value.oldScores_at, ← B.ev]
    have hs : (∑ d : Fin 128, qrow x0 (ix2 (row g t) d) * krow x3 x4 (ix2 ⟨p, hp⟩ d))
        = ∑ d : Fin 128, keys kc ks (ix4 b ⟨p, hp⟩ h d) * queries x (ix5 b t h g d) :=
      Finset.sum_congr rfl fun d _ => by rw [qrow_eq B, krow_eq B, mul_comm]
    rw [hs]
    unfold Scalar.select
    exact if_congr (slt_iff ⟨p, hp⟩).symm rfl rfl
  · rw [dif_neg hp, dif_neg hp]

include B in
/-- The cached weights are the reference's. -/
theorem weightOld_eq (d : Fin 128) : weightOld x5 x6 d = oldWeight vc vs b h d := by
  funext p
  unfold weightOld oldWeight
  by_cases hp : p < 2048
  · rw [dif_pos hp, dif_pos hp, B.e6, ← B.e5]
    rfl
  · rw [dif_neg hp, dif_neg hp]

/-- No cached key from the last block taken on is within the length. -/
theorem scoreOld_past (R : Fin 1792) (p : ℕ) (hp : 512 * blocks v ≤ p) : scoreOld x0 x3 x4 v R p = ⊥ := by
  unfold blocks at hp
  unfold scoreOld
  split
  · rw [if_neg (by omega)]
  · rfl

include B hR in
/-- The row is the reference's output. -/
theorem rowOut_eq (hv : v.toInt ≤ 2048) (g : Fin 8) (t : Fin 211) (d : Fin 128) :
    rowOut x0 x1 x2 x3 x5 x4 x6 x7 v (ix2 (row g t) d)
      = output vn vc vs (oldScores x kc ks cl) (newScores x kn) (ix3 b t ⟨1024 * h.val + (128 * g.val + d.val), by omega⟩) := by
  have F := finite_of B hR
  have e := online_eq 224 211 512 2048 (blocks v) (scoreNew x0 x1 x7 (row g t)) (weightNew x2 d) (scoreOld x0 x3 x4 v (row g t))
    (weightOld x5 x6 d) (by decide) (by decide) (by unfold blocks; omega) (F.first _) (F.new _) (F.old _)
    (fun u hu => by rw [scoreNew_eq B hR]; unfold newRow; exact dif_neg (by omega))
    (fun p hp => scoreOld_past _ p hp)
  rw [Cert.ReferenceIdeal.Value.output_at, ← scoreNew_eq B hR, ← weightNew_eq B, ← scoreOld_eq B, ← weightOld_eq B]
  exact e

end Cert.KernelIdeal.Gen

end
-- ==== Proof.KernelIdealValue.lean ====
/- What the idealized kernel leaves in its result: the reference's output of the same arguments (`arr_eq`, `run_value`), from
   cache lengths of at most 2048 and real queries, new keys and key scales. -/
module

public import proofs.«01_k».proof.Proof.KernelIdealOut
public import proofs.«01_k».proof.Proof.KernelIdealMask
public import proofs.«01_k».proof.Proof.KernelIdealBlocks
public import proofs.«01_k».proof.Proof.KernelIdealHyps
public import proofs.«01_k».proof.Proof.KernelIdealRow
public import Idealize.ShloMosaic.Lib.Claim
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Tactic Idealize.SL.Sem
open Cert.ReferenceIdeal.Value (oldScores newScores output)

variable (m : (ℓ : Loc nD τ sig) → Buf (Elt Ideal) ℓ)

/-- The reference's output of the arguments in memory. -/
def result (c : Dev nD) : FVec Ideal S12x211x8192 .bf16 :=
  output (m ((c.tc : Thread nD τ).loc main_arg2)) (m ((c.tc : Thread nD τ).loc main_arg5)) (m ((c.tc : Thread nD τ).loc main_arg6))
    (oldScores (m ((c.tc : Thread nD τ).loc main_arg0)) (m ((c.tc : Thread nD τ).loc main_arg3)) (m ((c.tc : Thread nD τ).loc main_arg4))
      (m ((c.tc : Thread nD τ).loc main_arg7)))
    (newScores (m ((c.tc : Thread nD τ).loc main_arg0)) (m ((c.tc : Thread nD τ).loc main_arg1)))

/-- The batch and the key head of a grid point. -/
def batch (t : Fin grid0.N) : Fin 12 := ⟨t.val / 8, by have := lt96 t; omega⟩
def head (t : Fin grid0.N) : Fin 8 := ⟨t.val % 8, by omega⟩

theorem coords_batch : ∀ t : Fin grid0.N, (grid0.coords t 0).val = t.val / 8 := by decide +kernel

/-- The word the point reads of the table is its batch's length. -/
theorem word_eq (c : Dev nD) (t : Fin grid0.N) :
    word c (grid0.coords t) (tbl m 0) = (m ((c.tc : Thread nD τ).loc main_arg7) (ix1 (batch t)) : BitVec 32) := by
  obtain rfl : c = 0 := Subsingleton.elim _ _
  unfold word
  rw [tbl_eq]
  refine congrArg (m (((0 : Dev nD).tc : Thread nD τ).loc main_arg7)) ?_
  funext a
  apply Fin.ext
  refine (idx_val _ _ _ _ _ a (k0_off1_eq _)).trans ?_
  fin_cases a
  show (grid0.coords t 0).val + 0 = t.val / 8
  rw [coords_batch, Nat.add_zero]

/-- A point's blocks are its batch's and head's parts of the arguments. -/
theorem blocks_of (hO : Ok m) (c : Dev nD) (t : Fin grid0.N) :
    Blocks (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (batch t) (head t)
      (iblk m hO c 0 t) (iblk m hO c 1 t) (iblk m hO c 2 t) (iblk m hO c 3 t) (iblk m hO c 5 t) (iblk m hO c 4 t)
      (iblk m hO c 6 t) (iblk m hO c 7 t) (word c (grid0.coords t) (tbl m 0)) where
  e0 t' j := (iblk0 m hO c t (ix3 0 t' j)).trans (congrFun (V_main_arg0 m c) _)
  e1 u d := (iblk1 m hO c t (ix4 0 0 u d)).trans (entry_v1 m c (batch t) (head t) u d)
  e2 u d := (iblk2 m hO c t (ix4 0 0 u d)).trans (entry_v3 m c (batch t) (head t) u d)
  e3 p d := (iblk3 m hO c t (ix4 0 0 p d)).trans (entry_v92 m c (batch t) (head t) p d)
  e4 p d := (iblk4 m hO c t (ix4 0 0 p d)).trans (entry_v93 m c (batch t) (head t) p d)
  e5 p d := (iblk5 m hO c t (ix4 0 0 p d)).trans (entry_v94 m c (batch t) (head t) p d)
  e6 p := (iblk6 m hO c t (ix4 0 0 0 p)).trans (entry_v96 m c (batch t) (head t) p)
  e7 R u := (iblk7 m hO c t (ix2 R u)).trans (entry_v91 m c R u)
  ev := word_eq m c t

variable (hcl : ∀ (c : Dev nD) (i : S12.Idx), (m ((c.tc : Thread nD τ).loc main_arg7) i : BitVec 32).toInt ≤ 2048)
  (hR : ∀ c : Dev nD, Reals (m ((c.tc : Thread nD τ).loc main_arg0)) (m ((c.tc : Thread nD τ).loc main_arg1)) (m ((c.tc : Thread nD τ).loc main_arg4)))

include hcl hR in
/-- What a point leaves in the output's block, element by element. -/
theorem outs_at (hO : Ok m) (hH : Hyps m hO) (c : Dev nD) (t : Fin grid0.N) (y : S1x211x1024.Idx) :
    outsAt0 m hO hH c t y = result m c (ix3 (batch t) (y 1) ⟨1024 * (t.val % 8) + (y 2).val, by
      have h2 : (y 2).val < 1024 := (y 2).isLt
      omega⟩) := by
  have h2 : (y 2).val < 1024 := (y 2).isLt
  have h1 : (y 1).val < 211 := (y 1).isLt
  have B := blocks_of m hO c t
  have hv : (word c (grid0.coords t) (tbl m 0)).toInt ≤ 2048 := by rw [word_eq]; exact hcl c _
  unfold outsAt0
  refine (out_at (hv := hv) (hF := finite_of B (hR c)) (y := y) ..).trans ?_
  refine Eq.trans ?_ ((rowOut_eq B (hR c) hv ⟨(y 2).val / 128, by omega⟩ (y 1) ⟨(y 2).val % 128, by omega⟩).trans ?_)
  · rfl
  · refine congrArg (result m c) (congrArg (ix3 (batch t) (y 1)) (Fin.ext ?_))
    show 1024 * (t.val % 8) + (128 * ((y 2).val / 128) + (y 2).val % 128) = 1024 * (t.val % 8) + (y 2).val
    omega

/-- The output's blocks cover its array. -/
theorem covers8 (hO : Ok m) : ((cfgM m hO).win 8).Covers := of_decide_eq_true (by sl_kernel_rfl)

/-- The place of an element of the output's block in its array. -/
theorem place8 (hO : Ok m) (t : Fin grid0.N) (y : S1x211x1024.Idx) :
    ((((cfgM m hO).win 8).blk t).view.emb y : S12x211x8192.Idx) = ix3 (batch t) (y 1) ⟨1024 * (t.val % 8) + (y 2).val, by
      have h2 : (y 2).val < 1024 := (y 2).isLt
      omega⟩ := by
  funext a; apply Fin.ext
  refine (Pipeline.Window.rect_emb_val ((cfgM m hO).win 8) t y a).trans ?_
  refine (congrArg (fun f : Fin S1x211x1024.rank → ℕ => f a * S1x211x1024.size a + (y a).val) ((index_eq t).2.2.2.2.2.2.2.2)).trans ?_
  fin_cases a
  · have : (y 0).val < 1 := (y 0).isLt
    show t.val / 8 * 1 + (y 0).val = t.val / 8; omega
  · show 0 * 211 + (y 1).val = (y 1).val; omega
  · show t.val % 8 * 1024 + (y 2).val = 1024 * (t.val % 8) + (y 2).val; omega

set_option maxHeartbeats 2000000 in
include hcl hR in
/-- The result array is the reference's output. -/
theorem arr_eq (hO : Ok m) (hH : Hyps m hO) (c : Dev nD) : (dats m hO hH 0 c).arrAt 8 (cfgM m hO).N = result m c := by
  refine (dats m hO hH 0 c).arrAt_eq_of_covers 8 (result m c) (covers8 m hO) fun t hf y => ?_
  rw [after0_8]
  refine (outs_at m hcl hR hO hH c t y).trans (congrArg (result m c) (place8 m hO t y).symm)

include hcl hR in
/-- The run: the result is the reference's output and the arguments end unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v97) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hO := ok_all m
  have hH := hyps_of_le m (hcl 0)
  exact (θ_run defs _ _).mono (fun r h c => ⟨((h.1 c).1 8).trans (arr_eq m hcl hR hO hH c), h.2 c⟩)
    (θ_run_and (run_main m ρ hO hH) (unchanged m ρ hO hH))

end Cert.KernelIdeal.Gen

end
-- ==== Proof.InputsOk.lean ====
/- What `inputs_ok` all ones says, element by element: the cache lengths are at most 2048, and the queries, the new keys and
   the key scales are real numbers. -/
module

public import proofs.«01_k».proof.Pre_inputs_ok
public import Idealize.ShloMosaic.PureOps.Ideal
public import Idealize.ShloMosaic.Lib.Decide

@[expose] public section

noncomputable section

namespace Cert.Pre_inputs_ok.Gen

open Idealize.ShloMosaic

theorem bcast_S_S12 : S_.BroadcastsInDim S12 (![] : Fin 0 → Fin S12.rank) := by decide
theorem bcast_S_S12x211x8192 : S_.BroadcastsInDim S12x211x8192 (![] : Fin 0 → Fin S12x211x8192.rank) := by decide
theorem bcast_S_S12x211x8x128 : S_.BroadcastsInDim S12x211x8x128 (![] : Fin 0 → Fin S12x211x8x128.rank) := by decide
theorem bcast_S_S12x16x8x128 : S_.BroadcastsInDim S12x16x8x128 (![] : Fin 0 → Fin S12x16x8x128.rank) := by decide

/-- The function's side conditions, proved: the instance it takes. -/
instance facts : Cert.Pre_inputs_ok.Facts where
  bcast_S_S12 := bcast_S_S12
  bcast_S_S12x211x8192 := bcast_S_S12x211x8192
  bcast_S_S12x211x8x128 := bcast_S_S12x211x8x128
  bcast_S_S12x16x8x128 := bcast_S_S12x16x8x128

theorem ofBits_inf16 : Ideal.ofBits .bf16 0x7F80#16 = (⊤ : EReal) := by
  simp [Ideal.ofBits, Ideal.ieee]

theorem ofBits_inf32 : Ideal.ofBits .f32 0x7F800000#32 = (⊤ : EReal) := by
  simp [Ideal.ofBits, Ideal.ieee]

/-- A number whose absolute value is below plus infinity is a real one. -/
theorem real_of_abs_lt (a : EReal) (h : BitVec.ofBool (decide (max a (-a) < ⊤)) = 1#1) : ∃ r : ℝ, a = (r : EReal) := by
  have h' : max a (-a) < ⊤ := by
    by_contra hn
    rw [decide_eq_false hn] at h
    exact absurd h (by decide)
  induction a using EReal.rec with
  | bot => simp at h'
  | top => simp at h'
  | coe r => exact ⟨r, rfl⟩

section

variable {a0 : FVec Ideal S12x211x8192 .bf16} {a1 a2 : FVec Ideal S12x211x8x128 .bf16} {a3 : IVec S12x2048x8x128 8}
  {a4 : FVec Ideal S12x16x8x128 .f32} {a5 : IVec S12x2048x8x128 8} {a6 : FVec Ideal S12x2048x8 .f32} {a7 : IVec S12 32}

/-- The cache lengths are at most 2048. -/
theorem le_of_inputs_ok {F : FTy → Type} [FloatOps F] {a0 a1 a2 a3 a4 a5 a6 a7}
    (h : (Cert.Pre_inputs_ok.fn (F := F) a0 a1 a2 a3 a4 a5 a6 a7).1 = fun _ => 1#1) (i : S12.Idx) : (a7 i).toInt ≤ 2048 := by
  have e : BitVec.ofBool ((a7 i).sle 2048#32) = 1#1 := congrFun h i
  have e' : (a7 i).sle 2048#32 = true := by
    revert e; cases (a7 i).sle 2048#32 <;> decide
  rw [BitVec.sle, decide_eq_true_iff] at e'
  exact e'

/-- The queries are real numbers. -/
theorem x_real (h : (Cert.Pre_inputs_ok.fn (F := Ideal) a0 a1 a2 a3 a4 a5 a6 a7).2.1 = fun _ => 1#1) (i : S12x211x8192.Idx) :
    ∃ r : ℝ, (a0 i : EReal) = (r : EReal) := by
  have e : BitVec.ofBool (decide (max (a0 i : EReal) (-(a0 i : EReal)) < Ideal.ofBits .bf16 0x7F80#16)) = 1#1 := congrFun h i
  rw [ofBits_inf16] at e
  exact real_of_abs_lt _ e

/-- The new keys are real numbers. -/
theorem kn_real (h : (Cert.Pre_inputs_ok.fn (F := Ideal) a0 a1 a2 a3 a4 a5 a6 a7).2.2.1 = fun _ => 1#1) (i : S12x211x8x128.Idx) :
    ∃ r : ℝ, (a1 i : EReal) = (r : EReal) := by
  have e : BitVec.ofBool (decide (max (a1 i : EReal) (-(a1 i : EReal)) < Ideal.ofBits .bf16 0x7F80#16)) = 1#1 := congrFun h i
  rw [ofBits_inf16] at e
  exact real_of_abs_lt _ e

/-- The key scales are real numbers. -/
theorem ks_real (h : (Cert.Pre_inputs_ok.fn (F := Ideal) a0 a1 a2 a3 a4 a5 a6 a7).2.2.2 = fun _ => 1#1) (i : S12x16x8x128.Idx) :
    ∃ r : ℝ, (a4 i : EReal) = (r : EReal) := by
  have e : BitVec.ofBool (decide (max (a4 i : EReal) (-(a4 i : EReal)) < Ideal.ofBits .f32 0x7F800000#32)) = 1#1 := congrFun h i
  rw [ofBits_inf32] at e
  exact real_of_abs_lt _ e

end

end Cert.Pre_inputs_ok.Gen

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_lengths_ok
public import proofs.«01_k».proof.Proof.Gen.ReferenceIdeal.Run
public import proofs.«01_k».proof.Proof.KernelHyps
public import proofs.«01_k».proof.Proof.KernelIdealHyps
public import proofs.«01_k».proof.Proof.KernelIdealValue
public import proofs.«01_k».proof.Proof.InputsOk
public import Idealize.ShloMosaic.Lib.Quiescent

@[expose] public section

noncomputable section

namespace Cert.Proof

open Idealize.ShloMosaic Idealize.SL.Sem

/-- `lengths_ok` all ones says that every cache length is at most 2048. -/
theorem le_of_lengths_ok {F : FTy → Type} [FloatOps F] {a0 a1 a2 a3 a4 a5 a6 a7}
    (h : Cert.Pre_lengths_ok.fn (F := F) a0 a1 a2 a3 a4 a5 a6 a7 = fun _ => 1#1) (i : Cert.Pre_lengths_ok.S12.Idx) : (a7 i).toInt ≤ 2048 := by
  have e : BitVec.ofBool ((a7 i).sle 2048#32) = 1#1 := congrFun h i
  have e' : (a7 i).sle 2048#32 = true := by
    revert e; cases (a7 i).sle 2048#32 <;> decide
  rw [BitVec.sle, decide_eq_true_iff] at e'
  exact e'

/-- The kernel's frame. -/
theorem frame_kernel : quiescent_Kernel := fun m g h =>
  Cert.Kernel.Gen.frame_of_le m g (le_of_lengths_ok (h 0))

/-- The idealized kernel's frame. -/
theorem frame_kernelIdeal : quiescent_KernelIdeal := fun m g h =>
  Cert.KernelIdeal.Gen.frame_of_le m g (le_of_lengths_ok (h 0))

/-- The reference's frame, with its counters at zero: @main is host operations, run one after the other. -/
theorem frame_reference : quiescent_ReferenceIdeal := fun m g _ =>
  (θ_run _ _ _).mono (fun r h => ⟨fun c => (h c).2, sem_eq_zero_of_no_sems (by decide) r.2⟩) (Cert.ReferenceIdeal.Value.run m g)

/-- The one rewrite: the mask constant is minus infinity. -/
theorem preserves : preserves_Kernel_KernelIdeal := IdealRules.named_const.statement _ _ _ _ _ rfl

/-- The idealized kernel's frame, from the value claim's precondition. -/
theorem frame_kernelIdeal_inputs_ok : quiescent_KernelIdeal_pre_inputs_ok := fun m g h =>
  Cert.KernelIdeal.Gen.frame_of_le m g (Cert.Pre_inputs_ok.Gen.le_of_inputs_ok (h 0).1)

/-- The reference's frame, from the value claim's precondition. -/
theorem frame_reference_inputs_ok : quiescent_ReferenceIdeal_pre_inputs_ok := fun m g _ => frame_reference m g trivial

/-- The reference's result, from arguments that are the kernel's, is the array the kernel leaves. -/
theorem reference_result {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v138 (F := Ideal) m' c = Cert.KernelIdeal.Gen.result m c := by
  rw [Cert.ReferenceIdeal.Value.res_eq, h0, h1, h2, h3, h4, h5, h6, h7]
  rfl

/-- The equation: from memories agreeing on the arguments, both runs leave the same result. -/
theorem algebraic : algebraic_KernelIdeal_ReferenceIdeal_pre_inputs_ok := fun m g m' g' hp hm =>
  ⟨fun c => Cert.KernelIdeal.Gen.result m c,
    Cert.KernelIdeal.Gen.run_value m (fun c => Cert.Pre_inputs_ok.Gen.le_of_inputs_ok (hp c).1)
      (fun c => ⟨Cert.Pre_inputs_ok.Gen.x_real (hp c).2.1, Cert.Pre_inputs_ok.Gen.kn_real (hp c).2.2.1,
        Cert.Pre_inputs_ok.Gen.ks_real (hp c).2.2.2⟩) g,
    (θ_run _ _ _).mono (fun r h c => ⟨(h c).1.trans (reference_result c (hm c).1 (hm c).2.1 (hm c).2.2.1 (hm c).2.2.2.1
      (hm c).2.2.2.2.1 (hm c).2.2.2.2.2.1 (hm c).2.2.2.2.2.2.1 (hm c).2.2.2.2.2.2.2), (h c).2⟩) (Cert.ReferenceIdeal.Value.run m' g')⟩

theorem claim : Cert.Claim :=
  ⟨Cert.Kernel.Gen.facts, Cert.KernelIdeal.Gen.facts, Cert.ReferenceIdeal.Gen.facts, Cert.Pre_lengths_ok.Gen.facts,
    Cert.Pre_inputs_ok.Gen.facts, frame_kernel, frame_kernelIdeal, frame_kernelIdeal_inputs_ok, frame_reference,
    frame_reference_inputs_ok, preserves, algebraic⟩

end Cert.Proof

end
